-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_std_nonzero [hPre_std_nonzero : Cert.Pre_std_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_std_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_std_nonzero [hPre_std_nonzero : Cert.Pre_std_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_std_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_std_nonzero [hKernelIdeal : Cert.KernelIdeal.Facts] [hPre_std_nonzero : Cert.Pre_std_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_std_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_std_nonzero [hReferenceIdeal : Cert.ReferenceIdeal.Facts] [hPre_std_nonzero : Cert.Pre_std_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_std_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_bin8" .f32 0x3D360B61#32 ((2 / 45 : ℝ) : EReal)
  ∧ IdealRules.named_const.Statement Cert.KernelIdeal.κ "inv_bin9" .f32 0x3D4CCCCD#32 ((1 / 20 : ℝ) : EReal)
  ∧ IdealRules.named_const.Statement Cert.KernelIdeal.κ "inv_bin6" .f32 0x3D088889#32 ((1 / 30 : ℝ) : EReal)

def algebraic_KernelIdeal_ReferenceIdeal_pre_std_nonzero [hKernelIdeal : Cert.KernelIdeal.Facts] [hReferenceIdeal : Cert.ReferenceIdeal.Facts] [hPre_std_nonzero : Cert.Pre_std_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_std_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v380) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_std_nonzero : Cert.Pre_std_nonzero.Facts),
    quiescent_Kernel (hKernel := hKernel)
    ∧ quiescent_KernelIdeal (hKernelIdeal := hKernelIdeal)
    ∧ quiescent_KernelIdeal_pre_std_nonzero (hKernelIdeal := hKernelIdeal) (hPre_std_nonzero := hPre_std_nonzero)
    ∧ quiescent_ReferenceIdeal (hReferenceIdeal := hReferenceIdeal)
    ∧ quiescent_ReferenceIdeal_pre_std_nonzero (hReferenceIdeal := hReferenceIdeal) (hPre_std_nonzero := hPre_std_nonzero)
    ∧ preserves_Kernel_KernelIdeal
    ∧ algebraic_KernelIdeal_ReferenceIdeal_pre_std_nonzero (hKernelIdeal := hKernelIdeal) (hReferenceIdeal := hReferenceIdeal) (hPre_std_nonzero := hPre_std_nonzero)
-- ==== Pre_std_nonzero.lean ====
abbrev S16384x1x28x28 : Shape := ⟨4, ![16384, 1, 28, 28]⟩
abbrev S8296 : Shape := ⟨1, ![8296]⟩
abbrev S_ : Shape := ⟨0, ![]⟩

class Facts : Prop where
  bcast_S_S8296 : S_.BroadcastsInDim S8296 (![] : Fin 0 → Fin S8296.rank)

variable [Facts]

def fn {F : FTy → Type} [FloatOps F] (main_arg0 : FVec F S16384x1x28x28 .f32) (main_arg1 : FVec F S8296 .f32) (main_arg2 : FVec F S8296 .f32) : IVec S8296 1 :=
  let main_cst : FVec F S_ .f32 := constant S_ .f32 0x00000000#32
  let main_v0 : FVec F S8296 .f32 := broadcastInDim S8296 ![] bcast_S_S8296 main_cst
  let main_v1 : IVec S8296 1 := cmpf .une main_arg2 main_v0
  main_v1
-- ==== Kernel.lean ====
abbrev S16384x1x28x28 : Shape := ⟨4, ![16384, 1, 28, 28]⟩
abbrev S8296 : Shape := ⟨1, ![8296]⟩
abbrev S16384x28x28 : Shape := ⟨3, ![16384, 28, 28]⟩
abbrev S28x28x16384 : Shape := ⟨3, ![28, 28, 16384]⟩
abbrev S_ : Shape := ⟨0, ![]⟩
abbrev S30x30x16384 : Shape := ⟨3, ![30, 30, 16384]⟩
abbrev S8296x1 : Shape := ⟨2, ![8296, 1]⟩
abbrev S16384x8296 : Shape := ⟨2, ![16384, 8296]⟩
abbrev S30x30x128 : Shape := ⟨3, ![30, 30, 128]⟩
abbrev S128x8296 : Shape := ⟨2, ![128, 8296]⟩
abbrev S28x28x128 : Shape := ⟨3, ![28, 28, 128]⟩
abbrev S784x128 : Shape := ⟨2, ![784, 128]⟩
abbrev S7x4x28x128 : Shape := ⟨4, ![7, 4, 28, 128]⟩
abbrev S7x28x128 : Shape := ⟨3, ![7, 28, 128]⟩
abbrev S7x7x4x128 : Shape := ⟨4, ![7, 7, 4, 128]⟩
abbrev S7x7x128 : Shape := ⟨3, ![7, 7, 128]⟩
abbrev S7x7x1x128 : Shape := ⟨4, ![7, 7, 1, 128]⟩
abbrev S7x7x8x128 : Shape := ⟨4, ![7, 7, 8, 128]⟩
abbrev S6x6x8x128 : Shape := ⟨4, ![6, 6, 8, 128]⟩
abbrev S6x6x32x128 : Shape := ⟨4, ![6, 6, 32, 128]⟩
abbrev S6x6x128 : Shape := ⟨3, ![6, 6, 128]⟩
abbrev S6x6x1x128 : Shape := ⟨4, ![6, 6, 1, 128]⟩
abbrev S1152x128 : Shape := ⟨2, ![1152, 128]⟩
abbrev S27x28x128 : Shape := ⟨3, ![27, 28, 128]⟩
abbrev S9x3x28x128 : Shape := ⟨4, ![9, 3, 28, 128]⟩
abbrev S9x28x128 : Shape := ⟨3, ![9, 28, 128]⟩
abbrev S1x28x128 : Shape := ⟨3, ![1, 28, 128]⟩
abbrev S28x128 : Shape := ⟨2, ![28, 128]⟩
abbrev S8x28x128 : Shape := ⟨3, ![8, 28, 128]⟩
abbrev S9x27x128 : Shape := ⟨3, ![9, 27, 128]⟩
abbrev S9x9x3x128 : Shape := ⟨4, ![9, 9, 3, 128]⟩
abbrev S9x9x128 : Shape := ⟨3, ![9, 9, 128]⟩
abbrev S9x1x128 : Shape := ⟨3, ![9, 1, 128]⟩
abbrev S9x128 : Shape := ⟨2, ![9, 128]⟩
abbrev S9x9x1x128 : Shape := ⟨4, ![9, 9, 1, 128]⟩
abbrev S9x9x9x128 : Shape := ⟨4, ![9, 9, 9, 128]⟩
abbrev S8x8x9x128 : Shape := ⟨4, ![8, 8, 9, 128]⟩
abbrev S8x8x36x128 : Shape := ⟨4, ![8, 8, 36, 128]⟩
abbrev S8x8x128 : Shape := ⟨3, ![8, 8, 128]⟩
abbrev S8x8x1x128 : Shape := ⟨4, ![8, 8, 1, 128]⟩
abbrev S2304x128 : Shape := ⟨2, ![2304, 128]⟩
abbrev S14x2x28x128 : Shape := ⟨4, ![14, 2, 28, 128]⟩
abbrev S14x28x128 : Shape := ⟨3, ![14, 28, 128]⟩
abbrev S14x14x2x128 : Shape := ⟨4, ![14, 14, 2, 128]⟩
abbrev S14x14x128 : Shape := ⟨3, ![14, 14, 128]⟩
abbrev S14x14x1x128 : Shape := ⟨4, ![14, 14, 1, 128]⟩
abbrev S14x14x6x128 : Shape := ⟨4, ![14, 14, 6, 128]⟩
abbrev S13x13x6x128 : Shape := ⟨4, ![13, 13, 6, 128]⟩
abbrev S13x13x24x128 : Shape := ⟨4, ![13, 13, 24, 128]⟩
abbrev S13x13x128 : Shape := ⟨3, ![13, 13, 128]⟩
abbrev S13x13x1x128 : Shape := ⟨4, ![13, 13, 1, 128]⟩
abbrev S4056x128 : Shape := ⟨2, ![4056, 128]⟩
abbrev S8296x128 : Shape := ⟨2, ![8296, 128]⟩

abbrev nBuf : Space → Nat
  | .hbm => 14
  | .vmem => 6
  | .smem => 0
  | _ => 0

abbrev bufTy : (tb : Table) → Fin (tcTables nBuf tb) → BufTy
  | .hbm, ⟨0, _⟩ => ⟨S16384x1x28x28, .f32⟩
  | .hbm, ⟨1, _⟩ => ⟨S8296, .f32⟩
  | .hbm, ⟨2, _⟩ => ⟨S8296, .f32⟩
  | .hbm, ⟨3, _⟩ => ⟨S16384x28x28, .f32⟩
  | .hbm, ⟨4, _⟩ => ⟨S28x28x16384, .f32⟩
  | .hbm, ⟨5, _⟩ => ⟨S_, .i32⟩
  | .hbm, ⟨6, _⟩ => ⟨S_, .f32⟩
  | .hbm, ⟨7, _⟩ => ⟨S30x30x16384, .f32⟩
  | .hbm, ⟨8, _⟩ => ⟨S8296x1, .f32⟩
  | .hbm, ⟨9, _⟩ => ⟨S_, .f32⟩
  | .hbm, ⟨10, _⟩ => ⟨S8296, .f32⟩
  | .hbm, ⟨11, _⟩ => ⟨S8296, .f32⟩
  | .hbm, ⟨12, _⟩ => ⟨S8296x1, .f32⟩
  | .hbm, ⟨13, _⟩ => ⟨S16384x8296, .f32⟩
  | .local _ .vmem, ⟨0, _⟩ => ⟨S30x30x128, .f32⟩
  | .local _ .vmem, ⟨1, _⟩ => ⟨S30x30x128, .f32⟩
  | .local _ .vmem, ⟨2, _⟩ => ⟨S8296x1, .f32⟩
  | .local _ .vmem, ⟨3, _⟩ => ⟨S8296x1, .f32⟩
  | .local _ .vmem, ⟨4, _⟩ => ⟨S128x8296, .f32⟩
  | .local _ .vmem, ⟨5, _⟩ => ⟨S128x8296, .f32⟩
  | _, _ => ⟨S16384x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S30x30x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8296x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8296x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x8296 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "inv_bin6" => some ((1 / 30 : ℝ) : EReal)
  | "inv_bin8" => some ((2 / 45 : ℝ) : EReal)
  | "inv_bin9" => some ((1 / 20 : ℝ) : EReal)
  | _ => none
-- ==== ReferenceIdeal.lean ====
abbrev S16384x1x28x28 : Shape := ⟨4, ![16384, 1, 28, 28]⟩
abbrev S8296 : Shape := ⟨1, ![8296]⟩
abbrev S_ : Shape := ⟨0, ![]⟩
abbrev S16384x1x30x30 : Shape := ⟨4, ![16384, 1, 30, 30]⟩
abbrev S28 : Shape := ⟨1, ![28]⟩
abbrev S28x1 : Shape := ⟨2, ![28, 1]⟩
abbrev S1x28 : Shape := ⟨2, ![1, 28]⟩
abbrev S28x28 : Shape := ⟨2, ![28, 28]⟩
abbrev S16384 : Shape := ⟨1, ![16384]⟩
abbrev S16384x1x1x1 : Shape := ⟨4, ![16384, 1, 1, 1]⟩
abbrev S1x1x28x28 : Shape := ⟨4, ![1, 1, 28, 28]⟩
abbrev S12845056 : Shape := ⟨1, ![12845056]⟩
abbrev S6422528 : Shape := ⟨1, ![6422528]⟩
abbrev S12845056x1 : Shape := ⟨2, ![12845056, 1]⟩
abbrev S16384x7x7x8 : Shape := ⟨4, ![16384, 7, 7, 8]⟩
abbrev S16384x6x6x8 : Shape := ⟨4, ![16384, 6, 6, 8]⟩
abbrev S16384x6x6x1x8 : Shape := ⟨5, ![16384, 6, 6, 1, 8]⟩
abbrev S16384x6x6x4x8 : Shape := ⟨5, ![16384, 6, 6, 4, 8]⟩
abbrev S16384x6x6x32 : Shape := ⟨4, ![16384, 6, 6, 32]⟩
abbrev S16384x6x6 : Shape := ⟨3, ![16384, 6, 6]⟩
abbrev S16384x6x6x1 : Shape := ⟨4, ![16384, 6, 6, 1]⟩
abbrev S16384x1152 : Shape := ⟨2, ![16384, 1152]⟩
abbrev S11943936 : Shape := ⟨1, ![11943936]⟩
abbrev S16384x9x9x9 : Shape := ⟨4, ![16384, 9, 9, 9]⟩
abbrev S16384x8x8x9 : Shape := ⟨4, ![16384, 8, 8, 9]⟩
abbrev S16384x8x8x1x9 : Shape := ⟨5, ![16384, 8, 8, 1, 9]⟩
abbrev S16384x8x8x4x9 : Shape := ⟨5, ![16384, 8, 8, 4, 9]⟩
abbrev S16384x8x8x36 : Shape := ⟨4, ![16384, 8, 8, 36]⟩
abbrev S16384x8x8 : Shape := ⟨3, ![16384, 8, 8]⟩
abbrev S16384x8x8x1 : Shape := ⟨4, ![16384, 8, 8, 1]⟩
abbrev S16384x2304 : Shape := ⟨2, ![16384, 2304]⟩
abbrev S19267584 : Shape := ⟨1, ![19267584]⟩
abbrev S16384x14x14x6 : Shape := ⟨4, ![16384, 14, 14, 6]⟩
abbrev S16384x13x13x6 : Shape := ⟨4, ![16384, 13, 13, 6]⟩
abbrev S16384x13x13x1x6 : Shape := ⟨5, ![16384, 13, 13, 1, 6]⟩
abbrev S16384x13x13x4x6 : Shape := ⟨5, ![16384, 13, 13, 4, 6]⟩
abbrev S16384x13x13x24 : Shape := ⟨4, ![16384, 13, 13, 24]⟩
abbrev S16384x13x13 : Shape := ⟨3, ![16384, 13, 13]⟩
abbrev S16384x13x13x1 : Shape := ⟨4, ![16384, 13, 13, 1]⟩
abbrev S16384x4056 : Shape := ⟨2, ![16384, 4056]⟩
abbrev S16384x784 : Shape := ⟨2, ![16384, 784]⟩
abbrev S16384x8296 : Shape := ⟨2, ![16384, 8296]⟩
abbrev S1x8296 : Shape := ⟨2, ![1, 8296]⟩

abbrev nBuf : Space → Nat
  | .hbm => 747
  | .vmem => 0
  | .smem => 0
  | _ => 0

abbrev hbmTy0_0 (i : Nat) : BufTy := match i % 128 with
  | 0 => ⟨S16384x1x28x28, .f32⟩
  | 1 => ⟨S8296, .f32⟩
  | 2 => ⟨S8296, .f32⟩
  | 3 => ⟨S_, .i32⟩
  | 4 => ⟨S_, .f32⟩
  | 5 => ⟨S16384x1x30x30, .f32⟩
  | 6 => ⟨S_, .f32⟩
  | 7 => ⟨S16384x1x28x28, .f32⟩
  | 8 => ⟨S_, .f32⟩
  | 9 => ⟨S16384x1x28x28, .f32⟩
  | 10 => ⟨S16384x1x28x28, .f32⟩
  | 11 => ⟨S_, .f32⟩
  | 12 => ⟨S16384x1x28x28, .f32⟩
  | 13 => ⟨S16384x1x28x28, .f32⟩
  | 14 => ⟨S16384x1x28x28, .f32⟩
  | 15 => ⟨S_, .f32⟩
  | 16 => ⟨S16384x1x28x28, .f32⟩
  | 17 => ⟨S16384x1x28x28, .f32⟩
  | 18 => ⟨S16384x1x28x28, .f32⟩
  | 19 => ⟨S16384x1x28x28, .f32⟩
  | 20 => ⟨S_, .f32⟩
  | 21 => ⟨S16384x1x28x28, .f32⟩
  | 22 => ⟨S16384x1x28x28, .f32⟩
  | 23 => ⟨S16384x1x28x28, .f32⟩
  | 24 => ⟨S16384x1x28x28, .f32⟩
  | 25 => ⟨S_, .f32⟩
  | 26 => ⟨S16384x1x28x28, .f32⟩
  | 27 => ⟨S16384x1x28x28, .f32⟩
  | 28 => ⟨S16384x1x28x28, .f32⟩
  | 29 => ⟨S_, .f32⟩
  | 30 => ⟨S16384x1x28x28, .f32⟩
  | 31 => ⟨S16384x1x28x28, .f32⟩
  | 32 => ⟨S16384x1x28x28, .f32⟩
  | 33 => ⟨S16384x1x28x28, .f32⟩
  | 34 => ⟨S_, .f32⟩
  | 35 => ⟨S16384x1x28x28, .f32⟩
  | 36 => ⟨S16384x1x28x28, .f32⟩
  | 37 => ⟨S16384x1x28x28, .f32⟩
  | 38 => ⟨S16384x1x28x28, .f32⟩
  | 39 => ⟨S16384x1x28x28, .f32⟩
  | 40 => ⟨S_, .f32⟩
  | 41 => ⟨S16384x1x28x28, .f32⟩
  | 42 => ⟨S16384x1x28x28, .f32⟩
  | 43 => ⟨S16384x1x28x28, .f32⟩
  | 44 => ⟨S16384x1x28x28, .f32⟩
  | 45 => ⟨S_, .f32⟩
  | 46 => ⟨S16384x1x28x28, .f32⟩
  | 47 => ⟨S16384x1x28x28, .f32⟩
  | 48 => ⟨S16384x1x28x28, .f32⟩
  | 49 => ⟨S_, .f32⟩
  | 50 => ⟨S16384x1x28x28, .f32⟩
  | 51 => ⟨S16384x1x28x28, .f32⟩
  | 52 => ⟨S16384x1x28x28, .f32⟩
  | 53 => ⟨S16384x1x28x28, .f32⟩
  | 54 => ⟨S_, .f32⟩
  | 55 => ⟨S16384x1x28x28, .f32⟩
  | 56 => ⟨S16384x1x28x28, .f32⟩
  | 57 => ⟨S16384x1x28x28, .f32⟩
  | 58 => ⟨S16384x1x28x28, .f32⟩
  | 59 => ⟨S_, .f32⟩
  | 60 => ⟨S16384x1x28x28, .f32⟩
  | 61 => ⟨S16384x1x28x28, .f32⟩
  | 62 => ⟨S16384x1x28x28, .f32⟩
  | 63 => ⟨S_, .f32⟩
  | 64 => ⟨S16384x1x28x28, .f32⟩
  | 65 => ⟨S16384x1x28x28, .f32⟩
  | 66 => ⟨S16384x1x28x28, .f32⟩
  | 67 => ⟨S_, .f32⟩
  | 68 => ⟨S16384x1x28x28, .f32⟩
  | 69 => ⟨S16384x1x28x28, .f32⟩
  | 70 => ⟨S_, .f32⟩
  | 71 => ⟨S16384x1x28x28, .f32⟩
  | 72 => ⟨S16384x1x28x28, .f32⟩
  | 73 => ⟨S16384x1x28x28, .f32⟩
  | 74 => ⟨S16384x1x28x28, .f32⟩
  | 75 => ⟨S16384x1x28x28, .f32⟩
  | 76 => ⟨S_, .f32⟩
  | 77 => ⟨S16384x1x28x28, .f32⟩
  | 78 => ⟨S16384x1x28x28, .f32⟩
  | 79 => ⟨S16384x1x28x28, .f32⟩
  | 80 => ⟨S16384x1x28x28, .f32⟩
  | 81 => ⟨S_, .f32⟩
  | 82 => ⟨S16384x1x28x28, .f32⟩
  | 83 => ⟨S16384x1x28x28, .f32⟩
  | 84 => ⟨S_, .f32⟩
  | 85 => ⟨S16384x1x28x28, .f32⟩
  | 86 => ⟨S16384x1x28x28, .f32⟩
  | 87 => ⟨S_, .f32⟩
  | 88 => ⟨S_, .f32⟩
  | 89 => ⟨S16384x1x28x28, .f32⟩
  | 90 => ⟨S16384x1x28x28, .f32⟩
  | 91 => ⟨S_, .f32⟩
  | 92 => ⟨S16384x1x28x28, .f32⟩
  | 93 => ⟨S16384x1x28x28, .i1⟩
  | 94 => ⟨S_, .f32⟩
  | 95 => ⟨S16384x1x28x28, .f32⟩
  | 96 => ⟨S16384x1x28x28, .i1⟩
  | 97 => ⟨S_, .f32⟩
  | 98 => ⟨S_, .i1⟩
  | 99 => ⟨S16384x1x28x28, .i1⟩
  | 100 => ⟨S16384x1x28x28, .i1⟩
  | 101 => ⟨S16384x1x28x28, .i1⟩
  | 102 => ⟨S16384x1x28x28, .f32⟩
  | 103 => ⟨S16384x1x28x28, .f32⟩
  | 104 => ⟨S16384x1x28x28, .f32⟩
  | 105 => ⟨S28, .i32⟩
  | 106 => ⟨S28x1, .i32⟩
  | 107 => ⟨S28, .i32⟩
  | 108 => ⟨S1x28, .i32⟩
  | 109 => ⟨S_, .i32⟩
  | 110 => ⟨S_, .i32⟩
  | 111 => ⟨S28x1, .i32⟩
  | 112 => ⟨S28x1, .i32⟩
  | 113 => ⟨S28x1, .i32⟩
  | 114 => ⟨S_, .i32⟩
  | 115 => ⟨S28x1, .i32⟩
  | 116 => ⟨S28x1, .i1⟩
  | 117 => ⟨S28x1, .i32⟩
  | 118 => ⟨S28x1, .i32⟩
  | 119 => ⟨S_, .i32⟩
  | 120 => ⟨S28x1, .i32⟩
  | 121 => ⟨S28x1, .i1⟩
  | 122 => ⟨S28x1, .i1⟩
  | 123 => ⟨S_, .i32⟩
  | 124 => ⟨S28x1, .i32⟩
  | 125 => ⟨S28x1, .i32⟩
  | 126 => ⟨S28x1, .i32⟩
  | 127 => ⟨S_, .i32⟩
  | _ => ⟨S16384x1x28x28, .f32⟩

abbrev hbmTy0_1 (i : Nat) : BufTy := match i % 128 with
  | 0 => ⟨S_, .i32⟩
  | 1 => ⟨S_, .i32⟩
  | 2 => ⟨S28x1, .i32⟩
  | 3 => ⟨S28x1, .i32⟩
  | 4 => ⟨S_, .i32⟩
  | 5 => ⟨S28x1, .i32⟩
  | 6 => ⟨S28x1, .i32⟩
  | 7 => ⟨S_, .i32⟩
  | 8 => ⟨S_, .i32⟩
  | 9 => ⟨S1x28, .i32⟩
  | 10 => ⟨S1x28, .i32⟩
  | 11 => ⟨S1x28, .i32⟩
  | 12 => ⟨S_, .i32⟩
  | 13 => ⟨S1x28, .i32⟩
  | 14 => ⟨S1x28, .i1⟩
  | 15 => ⟨S1x28, .i32⟩
  | 16 => ⟨S1x28, .i32⟩
  | 17 => ⟨S_, .i32⟩
  | 18 => ⟨S1x28, .i32⟩
  | 19 => ⟨S1x28, .i1⟩
  | 20 => ⟨S1x28, .i1⟩
  | 21 => ⟨S_, .i32⟩
  | 22 => ⟨S1x28, .i32⟩
  | 23 => ⟨S1x28, .i32⟩
  | 24 => ⟨S1x28, .i32⟩
  | 25 => ⟨S_, .i32⟩
  | 26 => ⟨S_, .i32⟩
  | 27 => ⟨S_, .i32⟩
  | 28 => ⟨S1x28, .i32⟩
  | 29 => ⟨S1x28, .i32⟩
  | 30 => ⟨S_, .i32⟩
  | 31 => ⟨S1x28, .i32⟩
  | 32 => ⟨S1x28, .i32⟩
  | 33 => ⟨S_, .i32⟩
  | 34 => ⟨S28x1, .i32⟩
  | 35 => ⟨S28x1, .i32⟩
  | 36 => ⟨S28x28, .i32⟩
  | 37 => ⟨S28x28, .i32⟩
  | 38 => ⟨S28x28, .i32⟩
  | 39 => ⟨S_, .f32⟩
  | 40 => ⟨S16384x1x28x28, .f32⟩
  | 41 => ⟨S16384x1x28x28, .f32⟩
  | 42 => ⟨S16384x1x28x28, .f32⟩
  | 43 => ⟨S_, .i32⟩
  | 44 => ⟨S_, .i32⟩
  | 45 => ⟨S_, .f32⟩
  | 46 => ⟨S16384x1x28x28, .f32⟩
  | 47 => ⟨S16384x1x28x28, .f32⟩
  | 48 => ⟨S_, .f32⟩
  | 49 => ⟨S16384x1x28x28, .f32⟩
  | 50 => ⟨S16384x1x28x28, .f32⟩
  | 51 => ⟨S16384x1x28x28, .i32⟩
  | 52 => ⟨S16384x1x28x28, .f32⟩
  | 53 => ⟨S_, .f32⟩
  | 54 => ⟨S16384x1x28x28, .f32⟩
  | 55 => ⟨S16384x1x28x28, .f32⟩
  | 56 => ⟨S16384x1x28x28, .f32⟩
  | 57 => ⟨S_, .f32⟩
  | 58 => ⟨S16384x1x28x28, .f32⟩
  | 59 => ⟨S16384x1x28x28, .f32⟩
  | 60 => ⟨S_, .i32⟩
  | 61 => ⟨S16384x1x28x28, .i32⟩
  | 62 => ⟨S16384x1x28x28, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S16384x1x28x28, .i32⟩
  | 70 => ⟨S16384x1x28x28, .i32⟩
  | 71 => ⟨S_, .i32⟩
  | 72 => ⟨S16384x1x28x28, .i32⟩
  | 73 => ⟨S16384x1x28x28, .i1⟩
  | 74 => ⟨S_, .i32⟩
  | 75 => ⟨S16384x1x28x28, .i32⟩
  | 76 => ⟨S16384x1x28x28, .i1⟩
  | 77 => ⟨S_, .i32⟩
  | 78 => ⟨S_, .i1⟩
  | 79 => ⟨S16384x1x28x28, .i1⟩
  | 80 => ⟨S16384x1x28x28, .i1⟩
  | 81 => ⟨S16384x1x28x28, .i1⟩
  | 82 => ⟨S16384x1x28x28, .i32⟩
  | 83 => ⟨S16384x1x28x28, .i32⟩
  | 84 => ⟨S16384x1x28x28, .i32⟩
  | 85 => ⟨S16384, .i32⟩
  | 86 => ⟨S16384x1x1x1, .i32⟩
  | 87 => ⟨S_, .i32⟩
  | 88 => ⟨S16384x1x1x1, .i32⟩
  | 89 => ⟨S16384x1x1x1, .i32⟩
  | 90 => ⟨S1x1x28x28, .i32⟩
  | 91 => ⟨S16384x1x28x28, .i32⟩
  | 92 => ⟨S16384x1x28x28, .i32⟩
  | 93 => ⟨S16384x1x28x28, .i32⟩
  | 94 => ⟨S12845056, .i32⟩
  | 95 => ⟨S12845056, .f32⟩
  | 96 => ⟨S12845056, .f32⟩
  | 97 => ⟨S12845056, .i32⟩
  | 98 => ⟨S12845056, .i32⟩
  | 99 => ⟨S_, .f32⟩
  | 100 => ⟨S6422528, .f32⟩
  | 101 => ⟨S_, .i32⟩
  | 102 => ⟨S12845056, .i32⟩
  | 103 => ⟨S12845056, .i32⟩
  | 104 => ⟨S12845056, .i32⟩
  | 105 => ⟨S_, .f32⟩
  | 106 => ⟨S12845056, .f32⟩
  | 107 => ⟨S12845056, .f32⟩
  | 108 => ⟨S12845056, .f32⟩
  | 109 => ⟨S_, .i32⟩
  | 110 => ⟨S12845056, .i32⟩
  | 111 => ⟨S12845056, .i1⟩
  | 112 => ⟨S_, .i32⟩
  | 113 => ⟨S12845056, .i32⟩
  | 114 => ⟨S12845056, .i32⟩
  | 115 => ⟨S12845056, .i32⟩
  | 116 => ⟨S12845056x1, .i32⟩
  | 117 => ⟨S6422528, .f32⟩
  | 118 => ⟨S_, .i32⟩
  | 119 => ⟨S12845056, .i32⟩
  | 120 => ⟨S12845056, .i32⟩
  | 121 => ⟨S12845056, .i32⟩
  | 122 => ⟨S12845056, .f32⟩
  | 123 => ⟨S_, .i32⟩
  | 124 => ⟨S12845056, .i32⟩
  | 125 => ⟨S12845056, .i1⟩
  | 126 => ⟨S_, .i32⟩
  | 127 => ⟨S12845056, .i32⟩
  | _ => ⟨S16384x1x28x28, .f32⟩

abbrev hbmTy0_2 (i : Nat) : BufTy := match i % 128 with
  | 0 => ⟨S12845056, .i32⟩
  | 1 => ⟨S12845056, .i32⟩
  | 2 => ⟨S12845056x1, .i32⟩
  | 3 => ⟨S6422528, .f32⟩
  | 4 => ⟨S16384x7x7x8, .f32⟩
  | 5 => ⟨S16384x6x6x8, .f32⟩
  | 6 => ⟨S16384x6x6x8, .f32⟩
  | 7 => ⟨S16384x6x6x8, .f32⟩
  | 8 => ⟨S16384x6x6x8, .f32⟩
  | 9 => ⟨S16384x6x6x1x8, .f32⟩
  | 10 => ⟨S16384x6x6x1x8, .f32⟩
  | 11 => ⟨S16384x6x6x1x8, .f32⟩
  | 12 => ⟨S16384x6x6x1x8, .f32⟩
  | 13 => ⟨S16384x6x6x4x8, .f32⟩
  | 14 => ⟨S16384x6x6x32, .f32⟩
  | 15 => ⟨S16384x6x6x32, .f32⟩
  | 16 => ⟨S_, .f32⟩
  | 17 => ⟨S16384x6x6, .f32⟩
  | 18 => ⟨S16384x6x6x1, .f32⟩
  | 19 => ⟨S_, .f32⟩
  | 20 => ⟨S16384x6x6x1, .f32⟩
  | 21 => ⟨S16384x6x6x1, .f32⟩
  | 22 => ⟨S16384x6x6x1, .f32⟩
  | 23 => ⟨S16384x6x6x32, .f32⟩
  | 24 => ⟨S16384x6x6x32, .f32⟩
  | 25 => ⟨S_, .f32⟩
  | 26 => ⟨S16384x6x6x32, .f32⟩
  | 27 => ⟨S16384x6x6x32, .f32⟩
  | 28 => ⟨S16384x6x6x32, .f32⟩
  | 29 => ⟨S_, .f32⟩
  | 30 => ⟨S16384x6x6, .f32⟩
  | 31 => ⟨S16384x6x6x1, .f32⟩
  | 32 => ⟨S_, .f32⟩
  | 33 => ⟨S16384x6x6x1, .f32⟩
  | 34 => ⟨S16384x6x6x1, .f32⟩
  | 35 => ⟨S16384x6x6x1, .f32⟩
  | 36 => ⟨S16384x6x6x32, .f32⟩
  | 37 => ⟨S16384x6x6x32, .f32⟩
  | 38 => ⟨S16384x1152, .f32⟩
  | 39 => ⟨S16384x1x28x28, .f32⟩
  | 40 => ⟨S16384x1x28x28, .f32⟩
  | 41 => ⟨S16384x1x28x28, .f32⟩
  | 42 => ⟨S_, .f32⟩
  | 43 => ⟨S16384x1x28x28, .f32⟩
  | 44 => ⟨S16384x1x28x28, .f32⟩
  | 45 => ⟨S16384x1x28x28, .f32⟩
  | 46 => ⟨S16384x1x28x28, .f32⟩
  | 47 => ⟨S_, .f32⟩
  | 48 => ⟨S16384x1x28x28, .f32⟩
  | 49 => ⟨S16384x1x28x28, .f32⟩
  | 50 => ⟨S_, .f32⟩
  | 51 => ⟨S16384x1x28x28, .f32⟩
  | 52 => ⟨S16384x1x28x28, .f32⟩
  | 53 => ⟨S_, .f32⟩
  | 54 => ⟨S_, .f32⟩
  | 55 => ⟨S16384x1x28x28, .f32⟩
  | 56 => ⟨S16384x1x28x28, .f32⟩
  | 57 => ⟨S_, .f32⟩
  | 58 => ⟨S16384x1x28x28, .f32⟩
  | 59 => ⟨S16384x1x28x28, .i1⟩
  | 60 => ⟨S_, .f32⟩
  | 61 => ⟨S16384x1x28x28, .f32⟩
  | 62 => ⟨S16384x1x28x28, .i1⟩
  | 63 => ⟨S_, .f32⟩
  | 64 => ⟨S_, .i1⟩
  | 65 => ⟨S16384x1x28x28, .i1⟩
  | 66 => ⟨S16384x1x28x28, .i1⟩
  | 67 => ⟨S16384x1x28x28, .i1⟩
  | 68 => ⟨S16384x1x28x28, .f32⟩
  | 69 => ⟨S16384x1x28x28, .f32⟩
  | 70 => ⟨S16384x1x28x28, .f32⟩
  | 71 => ⟨S28, .i32⟩
  | 72 => ⟨S28x1, .i32⟩
  | 73 => ⟨S28, .i32⟩
  | 74 => ⟨S1x28, .i32⟩
  | 75 => ⟨S_, .i32⟩
  | 76 => ⟨S_, .i32⟩
  | 77 => ⟨S28x1, .i32⟩
  | 78 => ⟨S28x1, .i32⟩
  | 79 => ⟨S28x1, .i32⟩
  | 80 => ⟨S_, .i32⟩
  | 81 => ⟨S28x1, .i32⟩
  | 82 => ⟨S28x1, .i1⟩
  | 83 => ⟨S28x1, .i32⟩
  | 84 => ⟨S28x1, .i32⟩
  | 85 => ⟨S_, .i32⟩
  | 86 => ⟨S28x1, .i32⟩
  | 87 => ⟨S28x1, .i1⟩
  | 88 => ⟨S28x1, .i1⟩
  | 89 => ⟨S_, .i32⟩
  | 90 => ⟨S28x1, .i32⟩
  | 91 => ⟨S28x1, .i32⟩
  | 92 => ⟨S28x1, .i32⟩
  | 93 => ⟨S_, .i32⟩
  | 94 => ⟨S_, .i32⟩
  | 95 => ⟨S_, .i32⟩
  | 96 => ⟨S28x1, .i32⟩
  | 97 => ⟨S28x1, .i32⟩
  | 98 => ⟨S_, .i32⟩
  | 99 => ⟨S28x1, .i32⟩
  | 100 => ⟨S28x1, .i32⟩
  | 101 => ⟨S_, .i32⟩
  | 102 => ⟨S_, .i32⟩
  | 103 => ⟨S1x28, .i32⟩
  | 104 => ⟨S1x28, .i32⟩
  | 105 => ⟨S1x28, .i32⟩
  | 106 => ⟨S_, .i32⟩
  | 107 => ⟨S1x28, .i32⟩
  | 108 => ⟨S1x28, .i1⟩
  | 109 => ⟨S1x28, .i32⟩
  | 110 => ⟨S1x28, .i32⟩
  | 111 => ⟨S_, .i32⟩
  | 112 => ⟨S1x28, .i32⟩
  | 113 => ⟨S1x28, .i1⟩
  | 114 => ⟨S1x28, .i1⟩
  | 115 => ⟨S_, .i32⟩
  | 116 => ⟨S1x28, .i32⟩
  | 117 => ⟨S1x28, .i32⟩
  | 118 => ⟨S1x28, .i32⟩
  | 119 => ⟨S_, .i32⟩
  | 120 => ⟨S_, .i32⟩
  | 121 => ⟨S_, .i32⟩
  | 122 => ⟨S1x28, .i32⟩
  | 123 => ⟨S1x28, .i32⟩
  | 124 => ⟨S_, .i32⟩
  | 125 => ⟨S1x28, .i32⟩
  | 126 => ⟨S1x28, .i32⟩
  | 127 => ⟨S_, .i32⟩
  | _ => ⟨S16384x1x28x28, .f32⟩

abbrev hbmTy0_3 (i : Nat) : BufTy := match i % 128 with
  | 0 => ⟨S28x1, .i32⟩
  | 1 => ⟨S28x1, .i32⟩
  | 2 => ⟨S28x28, .i32⟩
  | 3 => ⟨S28x28, .i32⟩
  | 4 => ⟨S28x28, .i32⟩
  | 5 => ⟨S_, .f32⟩
  | 6 => ⟨S16384x1x28x28, .f32⟩
  | 7 => ⟨S16384x1x28x28, .f32⟩
  | 8 => ⟨S16384x1x28x28, .f32⟩
  | 9 => ⟨S_, .i32⟩
  | 10 => ⟨S_, .i32⟩
  | 11 => ⟨S_, .f32⟩
  | 12 => ⟨S16384x1x28x28, .f32⟩
  | 13 => ⟨S16384x1x28x28, .f32⟩
  | 14 => ⟨S_, .f32⟩
  | 15 => ⟨S16384x1x28x28, .f32⟩
  | 16 => ⟨S16384x1x28x28, .f32⟩
  | 17 => ⟨S16384x1x28x28, .i32⟩
  | 18 => ⟨S16384x1x28x28, .f32⟩
  | 19 => ⟨S_, .f32⟩
  | 20 => ⟨S16384x1x28x28, .f32⟩
  | 21 => ⟨S16384x1x28x28, .f32⟩
  | 22 => ⟨S16384x1x28x28, .f32⟩
  | 23 => ⟨S_, .f32⟩
  | 24 => ⟨S16384x1x28x28, .f32⟩
  | 25 => ⟨S16384x1x28x28, .f32⟩
  | 26 => ⟨S_, .i32⟩
  | 27 => ⟨S16384x1x28x28, .i32⟩
  | 28 => ⟨S16384x1x28x28, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S16384x1x28x28, .i32⟩
  | 36 => ⟨S16384x1x28x28, .i32⟩
  | 37 => ⟨S_, .i32⟩
  | 38 => ⟨S16384x1x28x28, .i32⟩
  | 39 => ⟨S16384x1x28x28, .i1⟩
  | 40 => ⟨S_, .i32⟩
  | 41 => ⟨S16384x1x28x28, .i32⟩
  | 42 => ⟨S16384x1x28x28, .i1⟩
  | 43 => ⟨S_, .i32⟩
  | 44 => ⟨S_, .i1⟩
  | 45 => ⟨S16384x1x28x28, .i1⟩
  | 46 => ⟨S16384x1x28x28, .i1⟩
  | 47 => ⟨S16384x1x28x28, .i1⟩
  | 48 => ⟨S16384x1x28x28, .i32⟩
  | 49 => ⟨S16384x1x28x28, .i32⟩
  | 50 => ⟨S16384x1x28x28, .i32⟩
  | 51 => ⟨S16384, .i32⟩
  | 52 => ⟨S16384x1x1x1, .i32⟩
  | 53 => ⟨S_, .i32⟩
  | 54 => ⟨S16384x1x1x1, .i32⟩
  | 55 => ⟨S16384x1x1x1, .i32⟩
  | 56 => ⟨S1x1x28x28, .i32⟩
  | 57 => ⟨S16384x1x28x28, .i32⟩
  | 58 => ⟨S16384x1x28x28, .i32⟩
  | 59 => ⟨S16384x1x28x28, .i32⟩
  | 60 => ⟨S12845056, .i32⟩
  | 61 => ⟨S12845056, .f32⟩
  | 62 => ⟨S12845056, .f32⟩
  | 63 => ⟨S12845056, .i32⟩
  | 64 => ⟨S12845056, .i32⟩
  | 65 => ⟨S_, .f32⟩
  | 66 => ⟨S11943936, .f32⟩
  | 67 => ⟨S_, .i32⟩
  | 68 => ⟨S12845056, .i32⟩
  | 69 => ⟨S12845056, .i32⟩
  | 70 => ⟨S12845056, .i32⟩
  | 71 => ⟨S_, .f32⟩
  | 72 => ⟨S12845056, .f32⟩
  | 73 => ⟨S12845056, .f32⟩
  | 74 => ⟨S12845056, .f32⟩
  | 75 => ⟨S_, .i32⟩
  | 76 => ⟨S12845056, .i32⟩
  | 77 => ⟨S12845056, .i1⟩
  | 78 => ⟨S_, .i32⟩
  | 79 => ⟨S12845056, .i32⟩
  | 80 => ⟨S12845056, .i32⟩
  | 81 => ⟨S12845056, .i32⟩
  | 82 => ⟨S12845056x1, .i32⟩
  | 83 => ⟨S11943936, .f32⟩
  | 84 => ⟨S_, .i32⟩
  | 85 => ⟨S12845056, .i32⟩
  | 86 => ⟨S12845056, .i32⟩
  | 87 => ⟨S12845056, .i32⟩
  | 88 => ⟨S12845056, .f32⟩
  | 89 => ⟨S_, .i32⟩
  | 90 => ⟨S12845056, .i32⟩
  | 91 => ⟨S12845056, .i1⟩
  | 92 => ⟨S_, .i32⟩
  | 93 => ⟨S12845056, .i32⟩
  | 94 => ⟨S12845056, .i32⟩
  | 95 => ⟨S12845056, .i32⟩
  | 96 => ⟨S12845056x1, .i32⟩
  | 97 => ⟨S11943936, .f32⟩
  | 98 => ⟨S16384x9x9x9, .f32⟩
  | 99 => ⟨S16384x8x8x9, .f32⟩
  | 100 => ⟨S16384x8x8x9, .f32⟩
  | 101 => ⟨S16384x8x8x9, .f32⟩
  | 102 => ⟨S16384x8x8x9, .f32⟩
  | 103 => ⟨S16384x8x8x1x9, .f32⟩
  | 104 => ⟨S16384x8x8x1x9, .f32⟩
  | 105 => ⟨S16384x8x8x1x9, .f32⟩
  | 106 => ⟨S16384x8x8x1x9, .f32⟩
  | 107 => ⟨S16384x8x8x4x9, .f32⟩
  | 108 => ⟨S16384x8x8x36, .f32⟩
  | 109 => ⟨S16384x8x8x36, .f32⟩
  | 110 => ⟨S_, .f32⟩
  | 111 => ⟨S16384x8x8, .f32⟩
  | 112 => ⟨S16384x8x8x1, .f32⟩
  | 113 => ⟨S_, .f32⟩
  | 114 => ⟨S16384x8x8x1, .f32⟩
  | 115 => ⟨S16384x8x8x1, .f32⟩
  | 116 => ⟨S16384x8x8x1, .f32⟩
  | 117 => ⟨S16384x8x8x36, .f32⟩
  | 118 => ⟨S16384x8x8x36, .f32⟩
  | 119 => ⟨S_, .f32⟩
  | 120 => ⟨S16384x8x8x36, .f32⟩
  | 121 => ⟨S16384x8x8x36, .f32⟩
  | 122 => ⟨S16384x8x8x36, .f32⟩
  | 123 => ⟨S_, .f32⟩
  | 124 => ⟨S16384x8x8, .f32⟩
  | 125 => ⟨S16384x8x8x1, .f32⟩
  | 126 => ⟨S_, .f32⟩
  | 127 => ⟨S16384x8x8x1, .f32⟩
  | _ => ⟨S16384x1x28x28, .f32⟩

abbrev hbmTy0_4 (i : Nat) : BufTy := match i % 128 with
  | 0 => ⟨S16384x8x8x1, .f32⟩
  | 1 => ⟨S16384x8x8x1, .f32⟩
  | 2 => ⟨S16384x8x8x36, .f32⟩
  | 3 => ⟨S16384x8x8x36, .f32⟩
  | 4 => ⟨S16384x2304, .f32⟩
  | 5 => ⟨S16384x1x28x28, .f32⟩
  | 6 => ⟨S16384x1x28x28, .f32⟩
  | 7 => ⟨S16384x1x28x28, .f32⟩
  | 8 => ⟨S_, .f32⟩
  | 9 => ⟨S16384x1x28x28, .f32⟩
  | 10 => ⟨S16384x1x28x28, .f32⟩
  | 11 => ⟨S16384x1x28x28, .f32⟩
  | 12 => ⟨S16384x1x28x28, .f32⟩
  | 13 => ⟨S_, .f32⟩
  | 14 => ⟨S16384x1x28x28, .f32⟩
  | 15 => ⟨S16384x1x28x28, .f32⟩
  | 16 => ⟨S_, .f32⟩
  | 17 => ⟨S16384x1x28x28, .f32⟩
  | 18 => ⟨S16384x1x28x28, .f32⟩
  | 19 => ⟨S_, .f32⟩
  | 20 => ⟨S_, .f32⟩
  | 21 => ⟨S16384x1x28x28, .f32⟩
  | 22 => ⟨S16384x1x28x28, .f32⟩
  | 23 => ⟨S_, .f32⟩
  | 24 => ⟨S16384x1x28x28, .f32⟩
  | 25 => ⟨S16384x1x28x28, .i1⟩
  | 26 => ⟨S_, .f32⟩
  | 27 => ⟨S16384x1x28x28, .f32⟩
  | 28 => ⟨S16384x1x28x28, .i1⟩
  | 29 => ⟨S_, .f32⟩
  | 30 => ⟨S_, .i1⟩
  | 31 => ⟨S16384x1x28x28, .i1⟩
  | 32 => ⟨S16384x1x28x28, .i1⟩
  | 33 => ⟨S16384x1x28x28, .i1⟩
  | 34 => ⟨S16384x1x28x28, .f32⟩
  | 35 => ⟨S16384x1x28x28, .f32⟩
  | 36 => ⟨S16384x1x28x28, .f32⟩
  | 37 => ⟨S28, .i32⟩
  | 38 => ⟨S28x1, .i32⟩
  | 39 => ⟨S28, .i32⟩
  | 40 => ⟨S1x28, .i32⟩
  | 41 => ⟨S_, .i32⟩
  | 42 => ⟨S_, .i32⟩
  | 43 => ⟨S28x1, .i32⟩
  | 44 => ⟨S28x1, .i32⟩
  | 45 => ⟨S28x1, .i32⟩
  | 46 => ⟨S_, .i32⟩
  | 47 => ⟨S28x1, .i32⟩
  | 48 => ⟨S28x1, .i1⟩
  | 49 => ⟨S28x1, .i32⟩
  | 50 => ⟨S28x1, .i32⟩
  | 51 => ⟨S_, .i32⟩
  | 52 => ⟨S28x1, .i32⟩
  | 53 => ⟨S28x1, .i1⟩
  | 54 => ⟨S28x1, .i1⟩
  | 55 => ⟨S_, .i32⟩
  | 56 => ⟨S28x1, .i32⟩
  | 57 => ⟨S28x1, .i32⟩
  | 58 => ⟨S28x1, .i32⟩
  | 59 => ⟨S_, .i32⟩
  | 60 => ⟨S_, .i32⟩
  | 61 => ⟨S_, .i32⟩
  | 62 => ⟨S28x1, .i32⟩
  | 63 => ⟨S28x1, .i32⟩
  | 64 => ⟨S_, .i32⟩
  | 65 => ⟨S28x1, .i32⟩
  | 66 => ⟨S28x1, .i32⟩
  | 67 => ⟨S_, .i32⟩
  | 68 => ⟨S_, .i32⟩
  | 69 => ⟨S1x28, .i32⟩
  | 70 => ⟨S1x28, .i32⟩
  | 71 => ⟨S1x28, .i32⟩
  | 72 => ⟨S_, .i32⟩
  | 73 => ⟨S1x28, .i32⟩
  | 74 => ⟨S1x28, .i1⟩
  | 75 => ⟨S1x28, .i32⟩
  | 76 => ⟨S1x28, .i32⟩
  | 77 => ⟨S_, .i32⟩
  | 78 => ⟨S1x28, .i32⟩
  | 79 => ⟨S1x28, .i1⟩
  | 80 => ⟨S1x28, .i1⟩
  | 81 => ⟨S_, .i32⟩
  | 82 => ⟨S1x28, .i32⟩
  | 83 => ⟨S1x28, .i32⟩
  | 84 => ⟨S1x28, .i32⟩
  | 85 => ⟨S_, .i32⟩
  | 86 => ⟨S_, .i32⟩
  | 87 => ⟨S_, .i32⟩
  | 88 => ⟨S1x28, .i32⟩
  | 89 => ⟨S1x28, .i32⟩
  | 90 => ⟨S_, .i32⟩
  | 91 => ⟨S1x28, .i32⟩
  | 92 => ⟨S1x28, .i32⟩
  | 93 => ⟨S_, .i32⟩
  | 94 => ⟨S28x1, .i32⟩
  | 95 => ⟨S28x1, .i32⟩
  | 96 => ⟨S28x28, .i32⟩
  | 97 => ⟨S28x28, .i32⟩
  | 98 => ⟨S28x28, .i32⟩
  | 99 => ⟨S_, .f32⟩
  | 100 => ⟨S16384x1x28x28, .f32⟩
  | 101 => ⟨S16384x1x28x28, .f32⟩
  | 102 => ⟨S16384x1x28x28, .f32⟩
  | 103 => ⟨S_, .i32⟩
  | 104 => ⟨S_, .i32⟩
  | 105 => ⟨S_, .f32⟩
  | 106 => ⟨S16384x1x28x28, .f32⟩
  | 107 => ⟨S16384x1x28x28, .f32⟩
  | 108 => ⟨S_, .f32⟩
  | 109 => ⟨S16384x1x28x28, .f32⟩
  | 110 => ⟨S16384x1x28x28, .f32⟩
  | 111 => ⟨S16384x1x28x28, .i32⟩
  | 112 => ⟨S16384x1x28x28, .f32⟩
  | 113 => ⟨S_, .f32⟩
  | 114 => ⟨S16384x1x28x28, .f32⟩
  | 115 => ⟨S16384x1x28x28, .f32⟩
  | 116 => ⟨S16384x1x28x28, .f32⟩
  | 117 => ⟨S_, .f32⟩
  | 118 => ⟨S16384x1x28x28, .f32⟩
  | 119 => ⟨S16384x1x28x28, .f32⟩
  | 120 => ⟨S_, .i32⟩
  | 121 => ⟨S16384x1x28x28, .i32⟩
  | 122 => ⟨S16384x1x28x28, .i32⟩
  | 123 => ⟨S_, .i32⟩
  | 124 => ⟨S_, .i32⟩
  | 125 => ⟨S_, .i32⟩
  | 126 => ⟨S_, .i1⟩
  | 127 => ⟨S_, .i32⟩
  | _ => ⟨S16384x1x28x28, .f32⟩

abbrev hbmTy0_5 (i : Nat) : BufTy := match i % 128 with
  | 0 => ⟨S_, .i32⟩
  | 1 => ⟨S16384x1x28x28, .i32⟩
  | 2 => ⟨S16384x1x28x28, .i32⟩
  | 3 => ⟨S_, .i32⟩
  | 4 => ⟨S16384x1x28x28, .i32⟩
  | 5 => ⟨S16384x1x28x28, .i1⟩
  | 6 => ⟨S_, .i32⟩
  | 7 => ⟨S16384x1x28x28, .i32⟩
  | 8 => ⟨S16384x1x28x28, .i1⟩
  | 9 => ⟨S_, .i32⟩
  | 10 => ⟨S_, .i1⟩
  | 11 => ⟨S16384x1x28x28, .i1⟩
  | 12 => ⟨S16384x1x28x28, .i1⟩
  | 13 => ⟨S16384x1x28x28, .i1⟩
  | 14 => ⟨S16384x1x28x28, .i32⟩
  | 15 => ⟨S16384x1x28x28, .i32⟩
  | 16 => ⟨S16384x1x28x28, .i32⟩
  | 17 => ⟨S16384, .i32⟩
  | 18 => ⟨S16384x1x1x1, .i32⟩
  | 19 => ⟨S_, .i32⟩
  | 20 => ⟨S16384x1x1x1, .i32⟩
  | 21 => ⟨S16384x1x1x1, .i32⟩
  | 22 => ⟨S1x1x28x28, .i32⟩
  | 23 => ⟨S16384x1x28x28, .i32⟩
  | 24 => ⟨S16384x1x28x28, .i32⟩
  | 25 => ⟨S16384x1x28x28, .i32⟩
  | 26 => ⟨S12845056, .i32⟩
  | 27 => ⟨S12845056, .f32⟩
  | 28 => ⟨S12845056, .f32⟩
  | 29 => ⟨S12845056, .i32⟩
  | 30 => ⟨S12845056, .i32⟩
  | 31 => ⟨S_, .f32⟩
  | 32 => ⟨S19267584, .f32⟩
  | 33 => ⟨S_, .i32⟩
  | 34 => ⟨S12845056, .i32⟩
  | 35 => ⟨S12845056, .i32⟩
  | 36 => ⟨S12845056, .i32⟩
  | 37 => ⟨S_, .f32⟩
  | 38 => ⟨S12845056, .f32⟩
  | 39 => ⟨S12845056, .f32⟩
  | 40 => ⟨S12845056, .f32⟩
  | 41 => ⟨S_, .i32⟩
  | 42 => ⟨S12845056, .i32⟩
  | 43 => ⟨S12845056, .i1⟩
  | 44 => ⟨S_, .i32⟩
  | 45 => ⟨S12845056, .i32⟩
  | 46 => ⟨S12845056, .i32⟩
  | 47 => ⟨S12845056, .i32⟩
  | 48 => ⟨S12845056x1, .i32⟩
  | 49 => ⟨S19267584, .f32⟩
  | 50 => ⟨S_, .i32⟩
  | 51 => ⟨S12845056, .i32⟩
  | 52 => ⟨S12845056, .i32⟩
  | 53 => ⟨S12845056, .i32⟩
  | 54 => ⟨S12845056, .f32⟩
  | 55 => ⟨S_, .i32⟩
  | 56 => ⟨S12845056, .i32⟩
  | 57 => ⟨S12845056, .i1⟩
  | 58 => ⟨S_, .i32⟩
  | 59 => ⟨S12845056, .i32⟩
  | 60 => ⟨S12845056, .i32⟩
  | 61 => ⟨S12845056, .i32⟩
  | 62 => ⟨S12845056x1, .i32⟩
  | 63 => ⟨S19267584, .f32⟩
  | 64 => ⟨S16384x14x14x6, .f32⟩
  | 65 => ⟨S16384x13x13x6, .f32⟩
  | 66 => ⟨S16384x13x13x6, .f32⟩
  | 67 => ⟨S16384x13x13x6, .f32⟩
  | 68 => ⟨S16384x13x13x6, .f32⟩
  | 69 => ⟨S16384x13x13x1x6, .f32⟩
  | 70 => ⟨S16384x13x13x1x6, .f32⟩
  | 71 => ⟨S16384x13x13x1x6, .f32⟩
  | 72 => ⟨S16384x13x13x1x6, .f32⟩
  | 73 => ⟨S16384x13x13x4x6, .f32⟩
  | 74 => ⟨S16384x13x13x24, .f32⟩
  | 75 => ⟨S16384x13x13x24, .f32⟩
  | 76 => ⟨S_, .f32⟩
  | 77 => ⟨S16384x13x13, .f32⟩
  | 78 => ⟨S16384x13x13x1, .f32⟩
  | 79 => ⟨S_, .f32⟩
  | 80 => ⟨S16384x13x13x1, .f32⟩
  | 81 => ⟨S16384x13x13x1, .f32⟩
  | 82 => ⟨S16384x13x13x1, .f32⟩
  | 83 => ⟨S16384x13x13x24, .f32⟩
  | 84 => ⟨S16384x13x13x24, .f32⟩
  | 85 => ⟨S_, .f32⟩
  | 86 => ⟨S16384x13x13x24, .f32⟩
  | 87 => ⟨S16384x13x13x24, .f32⟩
  | 88 => ⟨S16384x13x13x24, .f32⟩
  | 89 => ⟨S_, .f32⟩
  | 90 => ⟨S16384x13x13, .f32⟩
  | 91 => ⟨S16384x13x13x1, .f32⟩
  | 92 => ⟨S_, .f32⟩
  | 93 => ⟨S16384x13x13x1, .f32⟩
  | 94 => ⟨S16384x13x13x1, .f32⟩
  | 95 => ⟨S16384x13x13x1, .f32⟩
  | 96 => ⟨S16384x13x13x24, .f32⟩
  | 97 => ⟨S16384x13x13x24, .f32⟩
  | 98 => ⟨S16384x4056, .f32⟩
  | 99 => ⟨S16384x784, .f32⟩
  | 100 => ⟨S16384x8296, .f32⟩
  | 101 => ⟨S1x8296, .f32⟩
  | 102 => ⟨S16384x8296, .f32⟩
  | 103 => ⟨S16384x8296, .f32⟩
  | 104 => ⟨S1x8296, .f32⟩
  | 105 => ⟨S16384x8296, .f32⟩
  | 106 => ⟨S16384x8296, .f32⟩
  | _ => ⟨S16384x1x28x28, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16384x1x28x28, .f32⟩

abbrev bufTy : (tb : Table) → Fin (tcTables nBuf tb) → BufTy
  | .hbm, ⟨i, _⟩ => hbmTy i
  | _, _ => ⟨S16384x1x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_v49 : Ref sig .tc := ⟨.hbm, 69, rfl⟩
abbrev main_cst_14 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩
abbrev main_cst_18 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_cst : Ref sig .tc := ⟨.hbm, 91, rfl⟩
abbrev main_call1_v3 : Ref sig .tc := ⟨.hbm, 92, rfl⟩
abbrev main_call1_v4 : Ref sig .tc := ⟨.hbm, 93, rfl⟩
abbrev main_call1_cst_0 : Ref sig .tc := ⟨.hbm, 94, rfl⟩
abbrev main_call1_v5 : Ref sig .tc := ⟨.hbm, 95, rfl⟩
abbrev main_call1_v6 : Ref sig .tc := ⟨.hbm, 96, rfl⟩
abbrev main_call1_cst_1 : Ref sig .tc := ⟨.hbm, 97, rfl⟩
abbrev main_call1_v7 : Ref sig .tc := ⟨.hbm, 98, rfl⟩
abbrev main_call1_v8 : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_call1_v12 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_c_19 : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_v7 : Ref sig .tc := ⟨.hbm, 117, rfl⟩
abbrev main_call2_v8 : Ref sig .tc := ⟨.hbm, 118, rfl⟩
abbrev main_call2_c : Ref sig .tc := ⟨.hbm, 119, rfl⟩
abbrev main_call2_v9 : Ref sig .tc := ⟨.hbm, 120, rfl⟩
abbrev main_call2_v10 : Ref sig .tc := ⟨.hbm, 121, rfl⟩
abbrev main_call2_v11 : Ref sig .tc := ⟨.hbm, 122, rfl⟩
abbrev main_call2_c_0 : Ref sig .tc := ⟨.hbm, 123, rfl⟩
abbrev main_call2_v12 : Ref sig .tc := ⟨.hbm, 124, rfl⟩
abbrev main_call2_v13 : Ref sig .tc := ⟨.hbm, 125, rfl⟩
abbrev main_v68 : Ref sig .tc := ⟨.hbm, 126, rfl⟩
abbrev main_c_20 : Ref sig .tc := ⟨.hbm, 127, rfl⟩
abbrev main_c_21 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_v69 : Ref sig .tc := ⟨.hbm, 134, rfl⟩
abbrev main_c_22 : Ref sig .tc := ⟨.hbm, 135, rfl⟩
abbrev main_call4_v0 : Ref sig .tc := ⟨.hbm, 136, rfl⟩
abbrev main_call4_v1 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_call4_v5 : Ref sig .tc := ⟨.hbm, 141, rfl⟩
abbrev main_call4_v6 : Ref sig .tc := ⟨.hbm, 142, rfl⟩
abbrev main_call4_v7 : Ref sig .tc := ⟨.hbm, 143, rfl⟩
abbrev main_call4_v8 : Ref sig .tc := ⟨.hbm, 144, rfl⟩
abbrev main_call4_c : Ref sig .tc := ⟨.hbm, 145, rfl⟩
abbrev main_call4_v9 : Ref sig .tc := ⟨.hbm, 146, rfl⟩
abbrev main_call4_v10 : Ref sig .tc := ⟨.hbm, 147, rfl⟩
abbrev main_call4_v11 : Ref sig .tc := ⟨.hbm, 148, rfl⟩
abbrev main_call4_c_0 : Ref sig .tc := ⟨.hbm, 149, rfl⟩
abbrev main_call4_v12 : Ref sig .tc := ⟨.hbm, 150, rfl⟩
abbrev main_call4_v13 : Ref sig .tc := ⟨.hbm, 151, rfl⟩
abbrev main_v70 : Ref sig .tc := ⟨.hbm, 152, rfl⟩
abbrev main_c_23 : Ref sig .tc := ⟨.hbm, 153, rfl⟩
abbrev main_c_24 : Ref sig .tc := ⟨.hbm, 154, rfl⟩
abbrev main_call5_v0 : Ref sig .tc := ⟨.hbm, 155, rfl⟩
abbrev main_call5_v1 : Ref sig .tc := ⟨.hbm, 156, rfl⟩
abbrev main_call5_v2 : Ref sig .tc := ⟨.hbm, 157, rfl⟩
abbrev main_call5_v3 : Ref sig .tc := ⟨.hbm, 158, rfl⟩
abbrev main_call5_v4 : Ref sig .tc := ⟨.hbm, 159, rfl⟩
abbrev main_v71 : Ref sig .tc := ⟨.hbm, 160, rfl⟩
abbrev main_c_25 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_cst_26 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev main_c_27 : Ref sig .tc := ⟨.hbm, 171, rfl⟩
abbrev main_c_28 : Ref sig .tc := ⟨.hbm, 172, rfl⟩
abbrev main_call6_v0 : Ref sig .tc := ⟨.hbm, 173, rfl⟩
abbrev main_call6_v1 : Ref sig .tc := ⟨.hbm, 174, rfl⟩
abbrev main_call6_v2 : Ref sig .tc := ⟨.hbm, 175, rfl⟩
abbrev main_call6_v3 : Ref sig .tc := ⟨.hbm, 176, rfl⟩
abbrev main_call6_v4 : Ref sig .tc := ⟨.hbm, 177, rfl⟩
abbrev main_v80 : Ref sig .tc := ⟨.hbm, 178, rfl⟩
abbrev main_v81 : Ref sig .tc := ⟨.hbm, 179, rfl⟩
abbrev main_v82 : Ref sig .tc := ⟨.hbm, 180, rfl⟩
abbrev main_cst_29 : Ref sig .tc := ⟨.hbm, 181, rfl⟩
abbrev main_v83 : Ref sig .tc := ⟨.hbm, 182, rfl⟩
abbrev main_v84 : Ref sig .tc := ⟨.hbm, 183, rfl⟩
abbrev main_v85 : Ref sig .tc := ⟨.hbm, 184, rfl⟩
abbrev main_cst_30 : Ref sig .tc := ⟨.hbm, 185, rfl⟩
abbrev main_v86 : Ref sig .tc := ⟨.hbm, 186, rfl⟩
abbrev main_v87 : Ref sig .tc := ⟨.hbm, 187, rfl⟩
abbrev main_c_31 : Ref sig .tc := ⟨.hbm, 188, rfl⟩
abbrev main_v88 : Ref sig .tc := ⟨.hbm, 189, rfl⟩
abbrev main_v89 : Ref sig .tc := ⟨.hbm, 190, rfl⟩
abbrev main_c_32 : Ref sig .tc := ⟨.hbm, 191, rfl⟩
abbrev main_call7_v0 : Ref sig .tc := ⟨.hbm, 192, rfl⟩
abbrev main_call7_c : Ref sig .tc := ⟨.hbm, 193, rfl⟩
abbrev main_call7_v1 : Ref sig .tc := ⟨.hbm, 194, rfl⟩
abbrev main_call7_c_0 : Ref sig .tc := ⟨.hbm, 195, rfl⟩
abbrev main_call7_v2 : Ref sig .tc := ⟨.hbm, 196, rfl⟩
abbrev main_call7_v3 : Ref sig .tc := ⟨.hbm, 197, rfl⟩
abbrev main_call7_v4 : Ref sig .tc := ⟨.hbm, 198, rfl⟩
abbrev main_call7_c_1 : Ref sig .tc := ⟨.hbm, 199, rfl⟩
abbrev main_call7_v5 : Ref sig .tc := ⟨.hbm, 200, rfl⟩
abbrev main_call7_v6 : Ref sig .tc := ⟨.hbm, 201, rfl⟩
abbrev main_call7_c_2 : Ref sig .tc := ⟨.hbm, 202, rfl⟩
abbrev main_call7_v7 : Ref sig .tc := ⟨.hbm, 203, rfl⟩
abbrev main_call7_v8 : Ref sig .tc := ⟨.hbm, 204, rfl⟩
abbrev main_call7_c_3 : Ref sig .tc := ⟨.hbm, 205, rfl⟩
abbrev main_call7_v9 : Ref sig .tc := ⟨.hbm, 206, rfl⟩
abbrev main_call7_v10 : Ref sig .tc := ⟨.hbm, 207, rfl⟩
abbrev main_call7_v11 : Ref sig .tc := ⟨.hbm, 208, rfl⟩
abbrev main_call7_v12 : Ref sig .tc := ⟨.hbm, 209, rfl⟩
abbrev main_call7_v13 : Ref sig .tc := ⟨.hbm, 210, rfl⟩
abbrev main_call7_v14 : Ref sig .tc := ⟨.hbm, 211, rfl⟩
abbrev main_v90 : Ref sig .tc := ⟨.hbm, 212, rfl⟩
abbrev main_v91 : Ref sig .tc := ⟨.hbm, 213, rfl⟩
abbrev main_v92 : Ref sig .tc := ⟨.hbm, 214, rfl⟩
abbrev main_c_33 : Ref sig .tc := ⟨.hbm, 215, rfl⟩
abbrev main_v93 : Ref sig .tc := ⟨.hbm, 216, rfl⟩
abbrev main_v94 : Ref sig .tc := ⟨.hbm, 217, rfl⟩
abbrev main_v95 : Ref sig .tc := ⟨.hbm, 218, rfl⟩
abbrev main_v96 : Ref sig .tc := ⟨.hbm, 219, rfl⟩
abbrev main_v97 : Ref sig .tc := ⟨.hbm, 220, rfl⟩
abbrev main_v98 : Ref sig .tc := ⟨.hbm, 221, rfl⟩
abbrev main_v99 : Ref sig .tc := ⟨.hbm, 222, rfl⟩
abbrev main_v100 : Ref sig .tc := ⟨.hbm, 223, rfl⟩
abbrev main_v101 : Ref sig .tc := ⟨.hbm, 224, rfl⟩
abbrev main_v102 : Ref sig .tc := ⟨.hbm, 225, rfl⟩
abbrev main_v103 : Ref sig .tc := ⟨.hbm, 226, rfl⟩
abbrev main_cst_34 : Ref sig .tc := ⟨.hbm, 227, rfl⟩
abbrev main_v104 : Ref sig .tc := ⟨.hbm, 228, rfl⟩
abbrev main_c_35 : Ref sig .tc := ⟨.hbm, 229, rfl⟩
abbrev main_v105 : Ref sig .tc := ⟨.hbm, 230, rfl⟩
abbrev main_v106 : Ref sig .tc := ⟨.hbm, 231, rfl⟩
abbrev main_v107 : Ref sig .tc := ⟨.hbm, 232, rfl⟩
abbrev main_cst_36 : Ref sig .tc := ⟨.hbm, 233, rfl⟩
abbrev main_v108 : Ref sig .tc := ⟨.hbm, 234, rfl⟩
abbrev main_v109 : Ref sig .tc := ⟨.hbm, 235, rfl⟩
abbrev main_v110 : Ref sig .tc := ⟨.hbm, 236, rfl⟩
abbrev main_c_37 : Ref sig .tc := ⟨.hbm, 237, rfl⟩
abbrev main_v111 : Ref sig .tc := ⟨.hbm, 238, rfl⟩
abbrev main_v112 : Ref sig .tc := ⟨.hbm, 239, rfl⟩
abbrev main_c_38 : Ref sig .tc := ⟨.hbm, 240, rfl⟩
abbrev main_v113 : Ref sig .tc := ⟨.hbm, 241, rfl⟩
abbrev main_v114 : Ref sig .tc := ⟨.hbm, 242, rfl⟩
abbrev main_v115 : Ref sig .tc := ⟨.hbm, 243, rfl⟩
abbrev main_v116 : Ref sig .tc := ⟨.hbm, 244, rfl⟩
abbrev main_v117 : Ref sig .tc := ⟨.hbm, 245, rfl⟩
abbrev main_c_39 : Ref sig .tc := ⟨.hbm, 246, rfl⟩
abbrev main_v118 : Ref sig .tc := ⟨.hbm, 247, rfl⟩
abbrev main_v119 : Ref sig .tc := ⟨.hbm, 248, rfl⟩
abbrev main_v120 : Ref sig .tc := ⟨.hbm, 249, rfl⟩
abbrev main_v121 : Ref sig .tc := ⟨.hbm, 250, rfl⟩
abbrev main_c_40 : Ref sig .tc := ⟨.hbm, 251, rfl⟩
abbrev main_v122 : Ref sig .tc := ⟨.hbm, 252, rfl⟩
abbrev main_v123 : Ref sig .tc := ⟨.hbm, 253, rfl⟩
abbrev main_c_41 : Ref sig .tc := ⟨.hbm, 254, rfl⟩
abbrev main_v124 : Ref sig .tc := ⟨.hbm, 255, rfl⟩
abbrev main_v125 : Ref sig .tc := ⟨.hbm, 256, rfl⟩
abbrev main_v126 : Ref sig .tc := ⟨.hbm, 257, rfl⟩
abbrev main_v127 : Ref sig .tc := ⟨.hbm, 258, rfl⟩
abbrev main_v128 : Ref sig .tc := ⟨.hbm, 259, rfl⟩
abbrev main_v129 : Ref sig .tc := ⟨.hbm, 260, rfl⟩
abbrev main_v130 : Ref sig .tc := ⟨.hbm, 261, rfl⟩
abbrev main_v131 : Ref sig .tc := ⟨.hbm, 262, rfl⟩
abbrev main_v132 : Ref sig .tc := ⟨.hbm, 263, rfl⟩
abbrev main_v133 : Ref sig .tc := ⟨.hbm, 264, rfl⟩
abbrev main_v134 : Ref sig .tc := ⟨.hbm, 265, rfl⟩
abbrev main_v135 : Ref sig .tc := ⟨.hbm, 266, rfl⟩
abbrev main_v136 : Ref sig .tc := ⟨.hbm, 267, rfl⟩
abbrev main_v137 : Ref sig .tc := ⟨.hbm, 268, rfl⟩
abbrev main_v138 : Ref sig .tc := ⟨.hbm, 269, rfl⟩
abbrev main_v139 : Ref sig .tc := ⟨.hbm, 270, rfl⟩
abbrev main_v140 : Ref sig .tc := ⟨.hbm, 271, rfl⟩
abbrev main_cst_42 : Ref sig .tc := ⟨.hbm, 272, rfl⟩
abbrev main_v141 : Ref sig .tc := ⟨.hbm, 273, rfl⟩
abbrev main_v142 : Ref sig .tc := ⟨.hbm, 274, rfl⟩
abbrev main_cst_43 : Ref sig .tc := ⟨.hbm, 275, rfl⟩
abbrev main_v143 : Ref sig .tc := ⟨.hbm, 276, rfl⟩
abbrev main_v144 : Ref sig .tc := ⟨.hbm, 277, rfl⟩
abbrev main_v145 : Ref sig .tc := ⟨.hbm, 278, rfl⟩
abbrev main_v146 : Ref sig .tc := ⟨.hbm, 279, rfl⟩
abbrev main_v147 : Ref sig .tc := ⟨.hbm, 280, rfl⟩
abbrev main_cst_44 : Ref sig .tc := ⟨.hbm, 281, rfl⟩
abbrev main_v148 : Ref sig .tc := ⟨.hbm, 282, rfl⟩
abbrev main_v149 : Ref sig .tc := ⟨.hbm, 283, rfl⟩
abbrev main_v150 : Ref sig .tc := ⟨.hbm, 284, rfl⟩
abbrev main_cst_45 : Ref sig .tc := ⟨.hbm, 285, rfl⟩
abbrev main_v151 : Ref sig .tc := ⟨.hbm, 286, rfl⟩
abbrev main_v152 : Ref sig .tc := ⟨.hbm, 287, rfl⟩
abbrev main_cst_46 : Ref sig .tc := ⟨.hbm, 288, rfl⟩
abbrev main_v153 : Ref sig .tc := ⟨.hbm, 289, rfl⟩
abbrev main_v154 : Ref sig .tc := ⟨.hbm, 290, rfl⟩
abbrev main_v155 : Ref sig .tc := ⟨.hbm, 291, rfl⟩
abbrev main_v156 : Ref sig .tc := ⟨.hbm, 292, rfl⟩
abbrev main_v157 : Ref sig .tc := ⟨.hbm, 293, rfl⟩
abbrev main_v158 : Ref sig .tc := ⟨.hbm, 294, rfl⟩
abbrev main_v159 : Ref sig .tc := ⟨.hbm, 295, rfl⟩
abbrev main_v160 : Ref sig .tc := ⟨.hbm, 296, rfl⟩
abbrev main_v161 : Ref sig .tc := ⟨.hbm, 297, rfl⟩
abbrev main_cst_47 : Ref sig .tc := ⟨.hbm, 298, rfl⟩
abbrev main_v162 : Ref sig .tc := ⟨.hbm, 299, rfl⟩
abbrev main_v163 : Ref sig .tc := ⟨.hbm, 300, rfl⟩
abbrev main_v164 : Ref sig .tc := ⟨.hbm, 301, rfl⟩
abbrev main_v165 : Ref sig .tc := ⟨.hbm, 302, rfl⟩
abbrev main_cst_48 : Ref sig .tc := ⟨.hbm, 303, rfl⟩
abbrev main_v166 : Ref sig .tc := ⟨.hbm, 304, rfl⟩
abbrev main_v167 : Ref sig .tc := ⟨.hbm, 305, rfl⟩
abbrev main_cst_49 : Ref sig .tc := ⟨.hbm, 306, rfl⟩
abbrev main_v168 : Ref sig .tc := ⟨.hbm, 307, rfl⟩
abbrev main_v169 : Ref sig .tc := ⟨.hbm, 308, rfl⟩
abbrev main_cst_50 : Ref sig .tc := ⟨.hbm, 309, rfl⟩
abbrev main_call8_v0 : Ref sig .tc := ⟨.hbm, 310, rfl⟩
abbrev main_call8_v1 : Ref sig .tc := ⟨.hbm, 311, rfl⟩
abbrev main_call8_v2 : Ref sig .tc := ⟨.hbm, 312, rfl⟩
abbrev main_call8_cst : Ref sig .tc := ⟨.hbm, 313, rfl⟩
abbrev main_call8_v3 : Ref sig .tc := ⟨.hbm, 314, rfl⟩
abbrev main_call8_v4 : Ref sig .tc := ⟨.hbm, 315, rfl⟩
abbrev main_call8_cst_0 : Ref sig .tc := ⟨.hbm, 316, rfl⟩
abbrev main_call8_v5 : Ref sig .tc := ⟨.hbm, 317, rfl⟩
abbrev main_call8_v6 : Ref sig .tc := ⟨.hbm, 318, rfl⟩
abbrev main_call8_cst_1 : Ref sig .tc := ⟨.hbm, 319, rfl⟩
abbrev main_call8_v7 : Ref sig .tc := ⟨.hbm, 320, rfl⟩
abbrev main_call8_v8 : Ref sig .tc := ⟨.hbm, 321, rfl⟩
abbrev main_call8_v9 : Ref sig .tc := ⟨.hbm, 322, rfl⟩
abbrev main_call8_v10 : Ref sig .tc := ⟨.hbm, 323, rfl⟩
abbrev main_call8_v11 : Ref sig .tc := ⟨.hbm, 324, rfl⟩
abbrev main_call8_v12 : Ref sig .tc := ⟨.hbm, 325, rfl⟩
abbrev main_v170 : Ref sig .tc := ⟨.hbm, 326, rfl⟩
abbrev main_v171 : Ref sig .tc := ⟨.hbm, 327, rfl⟩
abbrev main_v172 : Ref sig .tc := ⟨.hbm, 328, rfl⟩
abbrev main_v173 : Ref sig .tc := ⟨.hbm, 329, rfl⟩
abbrev main_v174 : Ref sig .tc := ⟨.hbm, 330, rfl⟩
abbrev main_c_51 : Ref sig .tc := ⟨.hbm, 331, rfl⟩
abbrev main_call9_v0 : Ref sig .tc := ⟨.hbm, 332, rfl⟩
abbrev main_call9_v1 : Ref sig .tc := ⟨.hbm, 333, rfl⟩
abbrev main_call9_v2 : Ref sig .tc := ⟨.hbm, 334, rfl⟩
abbrev main_call9_v3 : Ref sig .tc := ⟨.hbm, 335, rfl⟩
abbrev main_call9_v4 : Ref sig .tc := ⟨.hbm, 336, rfl⟩
abbrev main_call9_v5 : Ref sig .tc := ⟨.hbm, 337, rfl⟩
abbrev main_call9_v6 : Ref sig .tc := ⟨.hbm, 338, rfl⟩
abbrev main_call9_v7 : Ref sig .tc := ⟨.hbm, 339, rfl⟩
abbrev main_call9_v8 : Ref sig .tc := ⟨.hbm, 340, rfl⟩
abbrev main_call9_c : Ref sig .tc := ⟨.hbm, 341, rfl⟩
abbrev main_call9_v9 : Ref sig .tc := ⟨.hbm, 342, rfl⟩
abbrev main_call9_v10 : Ref sig .tc := ⟨.hbm, 343, rfl⟩
abbrev main_call9_v11 : Ref sig .tc := ⟨.hbm, 344, rfl⟩
abbrev main_call9_c_0 : Ref sig .tc := ⟨.hbm, 345, rfl⟩
abbrev main_call9_v12 : Ref sig .tc := ⟨.hbm, 346, rfl⟩
abbrev main_call9_v13 : Ref sig .tc := ⟨.hbm, 347, rfl⟩
abbrev main_v175 : Ref sig .tc := ⟨.hbm, 348, rfl⟩
abbrev main_c_52 : Ref sig .tc := ⟨.hbm, 349, rfl⟩
abbrev main_c_53 : Ref sig .tc := ⟨.hbm, 350, rfl⟩
abbrev main_call10_v0 : Ref sig .tc := ⟨.hbm, 351, rfl⟩
abbrev main_call10_v1 : Ref sig .tc := ⟨.hbm, 352, rfl⟩
abbrev main_call10_v2 : Ref sig .tc := ⟨.hbm, 353, rfl⟩
abbrev main_call10_v3 : Ref sig .tc := ⟨.hbm, 354, rfl⟩
abbrev main_call10_v4 : Ref sig .tc := ⟨.hbm, 355, rfl⟩
abbrev main_v176 : Ref sig .tc := ⟨.hbm, 356, rfl⟩
abbrev main_c_54 : Ref sig .tc := ⟨.hbm, 357, rfl⟩
abbrev main_call11_v0 : Ref sig .tc := ⟨.hbm, 358, rfl⟩
abbrev main_call11_v1 : Ref sig .tc := ⟨.hbm, 359, rfl⟩
abbrev main_call11_v2 : Ref sig .tc := ⟨.hbm, 360, rfl⟩
abbrev main_call11_v3 : Ref sig .tc := ⟨.hbm, 361, rfl⟩
abbrev main_call11_v4 : Ref sig .tc := ⟨.hbm, 362, rfl⟩
abbrev main_call11_v5 : Ref sig .tc := ⟨.hbm, 363, rfl⟩
abbrev main_call11_v6 : Ref sig .tc := ⟨.hbm, 364, rfl⟩
abbrev main_call11_v7 : Ref sig .tc := ⟨.hbm, 365, rfl⟩
abbrev main_call11_v8 : Ref sig .tc := ⟨.hbm, 366, rfl⟩
abbrev main_call11_c : Ref sig .tc := ⟨.hbm, 367, rfl⟩
abbrev main_call11_v9 : Ref sig .tc := ⟨.hbm, 368, rfl⟩
abbrev main_call11_v10 : Ref sig .tc := ⟨.hbm, 369, rfl⟩
abbrev main_call11_v11 : Ref sig .tc := ⟨.hbm, 370, rfl⟩
abbrev main_call11_c_0 : Ref sig .tc := ⟨.hbm, 371, rfl⟩
abbrev main_call11_v12 : Ref sig .tc := ⟨.hbm, 372, rfl⟩
abbrev main_call11_v13 : Ref sig .tc := ⟨.hbm, 373, rfl⟩
abbrev main_v177 : Ref sig .tc := ⟨.hbm, 374, rfl⟩
abbrev main_c_55 : Ref sig .tc := ⟨.hbm, 375, rfl⟩
abbrev main_c_56 : Ref sig .tc := ⟨.hbm, 376, rfl⟩
abbrev main_call12_v0 : Ref sig .tc := ⟨.hbm, 377, rfl⟩
abbrev main_call12_v1 : Ref sig .tc := ⟨.hbm, 378, rfl⟩
abbrev main_call12_v2 : Ref sig .tc := ⟨.hbm, 379, rfl⟩
abbrev main_call12_v3 : Ref sig .tc := ⟨.hbm, 380, rfl⟩
abbrev main_call12_v4 : Ref sig .tc := ⟨.hbm, 381, rfl⟩
abbrev main_v178 : Ref sig .tc := ⟨.hbm, 382, rfl⟩
abbrev main_c_57 : Ref sig .tc := ⟨.hbm, 383, rfl⟩
abbrev main_v179 : Ref sig .tc := ⟨.hbm, 384, rfl⟩
abbrev main_v180 : Ref sig .tc := ⟨.hbm, 385, rfl⟩
abbrev main_v181 : Ref sig .tc := ⟨.hbm, 386, rfl⟩
abbrev main_v182 : Ref sig .tc := ⟨.hbm, 387, rfl⟩
abbrev main_v183 : Ref sig .tc := ⟨.hbm, 388, rfl⟩
abbrev main_cst_58 : Ref sig .tc := ⟨.hbm, 389, rfl⟩
abbrev main_v184 : Ref sig .tc := ⟨.hbm, 390, rfl⟩
abbrev main_v185 : Ref sig .tc := ⟨.hbm, 391, rfl⟩
abbrev main_v186 : Ref sig .tc := ⟨.hbm, 392, rfl⟩
abbrev main_c_59 : Ref sig .tc := ⟨.hbm, 393, rfl⟩
abbrev main_c_60 : Ref sig .tc := ⟨.hbm, 394, rfl⟩
abbrev main_call13_v0 : Ref sig .tc := ⟨.hbm, 395, rfl⟩
abbrev main_call13_v1 : Ref sig .tc := ⟨.hbm, 396, rfl⟩
abbrev main_call13_v2 : Ref sig .tc := ⟨.hbm, 397, rfl⟩
abbrev main_call13_v3 : Ref sig .tc := ⟨.hbm, 398, rfl⟩
abbrev main_call13_v4 : Ref sig .tc := ⟨.hbm, 399, rfl⟩
abbrev main_v187 : Ref sig .tc := ⟨.hbm, 400, rfl⟩
abbrev main_v188 : Ref sig .tc := ⟨.hbm, 401, rfl⟩
abbrev main_v189 : Ref sig .tc := ⟨.hbm, 402, rfl⟩
abbrev main_cst_61 : Ref sig .tc := ⟨.hbm, 403, rfl⟩
abbrev main_v190 : Ref sig .tc := ⟨.hbm, 404, rfl⟩
abbrev main_v191 : Ref sig .tc := ⟨.hbm, 405, rfl⟩
abbrev main_v192 : Ref sig .tc := ⟨.hbm, 406, rfl⟩
abbrev main_cst_62 : Ref sig .tc := ⟨.hbm, 407, rfl⟩
abbrev main_v193 : Ref sig .tc := ⟨.hbm, 408, rfl⟩
abbrev main_v194 : Ref sig .tc := ⟨.hbm, 409, rfl⟩
abbrev main_c_63 : Ref sig .tc := ⟨.hbm, 410, rfl⟩
abbrev main_v195 : Ref sig .tc := ⟨.hbm, 411, rfl⟩
abbrev main_v196 : Ref sig .tc := ⟨.hbm, 412, rfl⟩
abbrev main_c_64 : Ref sig .tc := ⟨.hbm, 413, rfl⟩
abbrev main_call14_v0 : Ref sig .tc := ⟨.hbm, 414, rfl⟩
abbrev main_call14_c : Ref sig .tc := ⟨.hbm, 415, rfl⟩
abbrev main_call14_v1 : Ref sig .tc := ⟨.hbm, 416, rfl⟩
abbrev main_call14_c_0 : Ref sig .tc := ⟨.hbm, 417, rfl⟩
abbrev main_call14_v2 : Ref sig .tc := ⟨.hbm, 418, rfl⟩
abbrev main_call14_v3 : Ref sig .tc := ⟨.hbm, 419, rfl⟩
abbrev main_call14_v4 : Ref sig .tc := ⟨.hbm, 420, rfl⟩
abbrev main_call14_c_1 : Ref sig .tc := ⟨.hbm, 421, rfl⟩
abbrev main_call14_v5 : Ref sig .tc := ⟨.hbm, 422, rfl⟩
abbrev main_call14_v6 : Ref sig .tc := ⟨.hbm, 423, rfl⟩
abbrev main_call14_c_2 : Ref sig .tc := ⟨.hbm, 424, rfl⟩
abbrev main_call14_v7 : Ref sig .tc := ⟨.hbm, 425, rfl⟩
abbrev main_call14_v8 : Ref sig .tc := ⟨.hbm, 426, rfl⟩
abbrev main_call14_c_3 : Ref sig .tc := ⟨.hbm, 427, rfl⟩
abbrev main_call14_v9 : Ref sig .tc := ⟨.hbm, 428, rfl⟩
abbrev main_call14_v10 : Ref sig .tc := ⟨.hbm, 429, rfl⟩
abbrev main_call14_v11 : Ref sig .tc := ⟨.hbm, 430, rfl⟩
abbrev main_call14_v12 : Ref sig .tc := ⟨.hbm, 431, rfl⟩
abbrev main_call14_v13 : Ref sig .tc := ⟨.hbm, 432, rfl⟩
abbrev main_call14_v14 : Ref sig .tc := ⟨.hbm, 433, rfl⟩
abbrev main_v197 : Ref sig .tc := ⟨.hbm, 434, rfl⟩
abbrev main_v198 : Ref sig .tc := ⟨.hbm, 435, rfl⟩
abbrev main_v199 : Ref sig .tc := ⟨.hbm, 436, rfl⟩
abbrev main_c_65 : Ref sig .tc := ⟨.hbm, 437, rfl⟩
abbrev main_v200 : Ref sig .tc := ⟨.hbm, 438, rfl⟩
abbrev main_v201 : Ref sig .tc := ⟨.hbm, 439, rfl⟩
abbrev main_v202 : Ref sig .tc := ⟨.hbm, 440, rfl⟩
abbrev main_v203 : Ref sig .tc := ⟨.hbm, 441, rfl⟩
abbrev main_v204 : Ref sig .tc := ⟨.hbm, 442, rfl⟩
abbrev main_v205 : Ref sig .tc := ⟨.hbm, 443, rfl⟩
abbrev main_v206 : Ref sig .tc := ⟨.hbm, 444, rfl⟩
abbrev main_v207 : Ref sig .tc := ⟨.hbm, 445, rfl⟩
abbrev main_v208 : Ref sig .tc := ⟨.hbm, 446, rfl⟩
abbrev main_v209 : Ref sig .tc := ⟨.hbm, 447, rfl⟩
abbrev main_v210 : Ref sig .tc := ⟨.hbm, 448, rfl⟩
abbrev main_cst_66 : Ref sig .tc := ⟨.hbm, 449, rfl⟩
abbrev main_v211 : Ref sig .tc := ⟨.hbm, 450, rfl⟩
abbrev main_c_67 : Ref sig .tc := ⟨.hbm, 451, rfl⟩
abbrev main_v212 : Ref sig .tc := ⟨.hbm, 452, rfl⟩
abbrev main_v213 : Ref sig .tc := ⟨.hbm, 453, rfl⟩
abbrev main_v214 : Ref sig .tc := ⟨.hbm, 454, rfl⟩
abbrev main_cst_68 : Ref sig .tc := ⟨.hbm, 455, rfl⟩
abbrev main_v215 : Ref sig .tc := ⟨.hbm, 456, rfl⟩
abbrev main_v216 : Ref sig .tc := ⟨.hbm, 457, rfl⟩
abbrev main_v217 : Ref sig .tc := ⟨.hbm, 458, rfl⟩
abbrev main_c_69 : Ref sig .tc := ⟨.hbm, 459, rfl⟩
abbrev main_v218 : Ref sig .tc := ⟨.hbm, 460, rfl⟩
abbrev main_v219 : Ref sig .tc := ⟨.hbm, 461, rfl⟩
abbrev main_c_70 : Ref sig .tc := ⟨.hbm, 462, rfl⟩
abbrev main_v220 : Ref sig .tc := ⟨.hbm, 463, rfl⟩
abbrev main_v221 : Ref sig .tc := ⟨.hbm, 464, rfl⟩
abbrev main_v222 : Ref sig .tc := ⟨.hbm, 465, rfl⟩
abbrev main_v223 : Ref sig .tc := ⟨.hbm, 466, rfl⟩
abbrev main_v224 : Ref sig .tc := ⟨.hbm, 467, rfl⟩
abbrev main_c_71 : Ref sig .tc := ⟨.hbm, 468, rfl⟩
abbrev main_v225 : Ref sig .tc := ⟨.hbm, 469, rfl⟩
abbrev main_v226 : Ref sig .tc := ⟨.hbm, 470, rfl⟩
abbrev main_v227 : Ref sig .tc := ⟨.hbm, 471, rfl⟩
abbrev main_v228 : Ref sig .tc := ⟨.hbm, 472, rfl⟩
abbrev main_c_72 : Ref sig .tc := ⟨.hbm, 473, rfl⟩
abbrev main_v229 : Ref sig .tc := ⟨.hbm, 474, rfl⟩
abbrev main_v230 : Ref sig .tc := ⟨.hbm, 475, rfl⟩
abbrev main_c_73 : Ref sig .tc := ⟨.hbm, 476, rfl⟩
abbrev main_v231 : Ref sig .tc := ⟨.hbm, 477, rfl⟩
abbrev main_v232 : Ref sig .tc := ⟨.hbm, 478, rfl⟩
abbrev main_v233 : Ref sig .tc := ⟨.hbm, 479, rfl⟩
abbrev main_v234 : Ref sig .tc := ⟨.hbm, 480, rfl⟩
abbrev main_v235 : Ref sig .tc := ⟨.hbm, 481, rfl⟩
abbrev main_v236 : Ref sig .tc := ⟨.hbm, 482, rfl⟩
abbrev main_v237 : Ref sig .tc := ⟨.hbm, 483, rfl⟩
abbrev main_v238 : Ref sig .tc := ⟨.hbm, 484, rfl⟩
abbrev main_v239 : Ref sig .tc := ⟨.hbm, 485, rfl⟩
abbrev main_v240 : Ref sig .tc := ⟨.hbm, 486, rfl⟩
abbrev main_v241 : Ref sig .tc := ⟨.hbm, 487, rfl⟩
abbrev main_v242 : Ref sig .tc := ⟨.hbm, 488, rfl⟩
abbrev main_v243 : Ref sig .tc := ⟨.hbm, 489, rfl⟩
abbrev main_v244 : Ref sig .tc := ⟨.hbm, 490, rfl⟩
abbrev main_v245 : Ref sig .tc := ⟨.hbm, 491, rfl⟩
abbrev main_v246 : Ref sig .tc := ⟨.hbm, 492, rfl⟩
abbrev main_v247 : Ref sig .tc := ⟨.hbm, 493, rfl⟩
abbrev main_cst_74 : Ref sig .tc := ⟨.hbm, 494, rfl⟩
abbrev main_v248 : Ref sig .tc := ⟨.hbm, 495, rfl⟩
abbrev main_v249 : Ref sig .tc := ⟨.hbm, 496, rfl⟩
abbrev main_cst_75 : Ref sig .tc := ⟨.hbm, 497, rfl⟩
abbrev main_v250 : Ref sig .tc := ⟨.hbm, 498, rfl⟩
abbrev main_v251 : Ref sig .tc := ⟨.hbm, 499, rfl⟩
abbrev main_v252 : Ref sig .tc := ⟨.hbm, 500, rfl⟩
abbrev main_v253 : Ref sig .tc := ⟨.hbm, 501, rfl⟩
abbrev main_v254 : Ref sig .tc := ⟨.hbm, 502, rfl⟩
abbrev main_cst_76 : Ref sig .tc := ⟨.hbm, 503, rfl⟩
abbrev main_v255 : Ref sig .tc := ⟨.hbm, 504, rfl⟩
abbrev main_v256 : Ref sig .tc := ⟨.hbm, 505, rfl⟩
abbrev main_v257 : Ref sig .tc := ⟨.hbm, 506, rfl⟩
abbrev main_cst_77 : Ref sig .tc := ⟨.hbm, 507, rfl⟩
abbrev main_v258 : Ref sig .tc := ⟨.hbm, 508, rfl⟩
abbrev main_v259 : Ref sig .tc := ⟨.hbm, 509, rfl⟩
abbrev main_cst_78 : Ref sig .tc := ⟨.hbm, 510, rfl⟩
abbrev main_v260 : Ref sig .tc := ⟨.hbm, 511, rfl⟩
abbrev main_v261 : Ref sig .tc := ⟨.hbm, 512, rfl⟩
abbrev main_v262 : Ref sig .tc := ⟨.hbm, 513, rfl⟩
abbrev main_v263 : Ref sig .tc := ⟨.hbm, 514, rfl⟩
abbrev main_v264 : Ref sig .tc := ⟨.hbm, 515, rfl⟩
abbrev main_v265 : Ref sig .tc := ⟨.hbm, 516, rfl⟩
abbrev main_v266 : Ref sig .tc := ⟨.hbm, 517, rfl⟩
abbrev main_v267 : Ref sig .tc := ⟨.hbm, 518, rfl⟩
abbrev main_v268 : Ref sig .tc := ⟨.hbm, 519, rfl⟩
abbrev main_cst_79 : Ref sig .tc := ⟨.hbm, 520, rfl⟩
abbrev main_v269 : Ref sig .tc := ⟨.hbm, 521, rfl⟩
abbrev main_v270 : Ref sig .tc := ⟨.hbm, 522, rfl⟩
abbrev main_v271 : Ref sig .tc := ⟨.hbm, 523, rfl⟩
abbrev main_v272 : Ref sig .tc := ⟨.hbm, 524, rfl⟩
abbrev main_cst_80 : Ref sig .tc := ⟨.hbm, 525, rfl⟩
abbrev main_v273 : Ref sig .tc := ⟨.hbm, 526, rfl⟩
abbrev main_v274 : Ref sig .tc := ⟨.hbm, 527, rfl⟩
abbrev main_cst_81 : Ref sig .tc := ⟨.hbm, 528, rfl⟩
abbrev main_v275 : Ref sig .tc := ⟨.hbm, 529, rfl⟩
abbrev main_v276 : Ref sig .tc := ⟨.hbm, 530, rfl⟩
abbrev main_cst_82 : Ref sig .tc := ⟨.hbm, 531, rfl⟩
abbrev main_call15_v0 : Ref sig .tc := ⟨.hbm, 532, rfl⟩
abbrev main_call15_v1 : Ref sig .tc := ⟨.hbm, 533, rfl⟩
abbrev main_call15_v2 : Ref sig .tc := ⟨.hbm, 534, rfl⟩
abbrev main_call15_cst : Ref sig .tc := ⟨.hbm, 535, rfl⟩
abbrev main_call15_v3 : Ref sig .tc := ⟨.hbm, 536, rfl⟩
abbrev main_call15_v4 : Ref sig .tc := ⟨.hbm, 537, rfl⟩
abbrev main_call15_cst_0 : Ref sig .tc := ⟨.hbm, 538, rfl⟩
abbrev main_call15_v5 : Ref sig .tc := ⟨.hbm, 539, rfl⟩
abbrev main_call15_v6 : Ref sig .tc := ⟨.hbm, 540, rfl⟩
abbrev main_call15_cst_1 : Ref sig .tc := ⟨.hbm, 541, rfl⟩
abbrev main_call15_v7 : Ref sig .tc := ⟨.hbm, 542, rfl⟩
abbrev main_call15_v8 : Ref sig .tc := ⟨.hbm, 543, rfl⟩
abbrev main_call15_v9 : Ref sig .tc := ⟨.hbm, 544, rfl⟩
abbrev main_call15_v10 : Ref sig .tc := ⟨.hbm, 545, rfl⟩
abbrev main_call15_v11 : Ref sig .tc := ⟨.hbm, 546, rfl⟩
abbrev main_call15_v12 : Ref sig .tc := ⟨.hbm, 547, rfl⟩
abbrev main_v277 : Ref sig .tc := ⟨.hbm, 548, rfl⟩
abbrev main_v278 : Ref sig .tc := ⟨.hbm, 549, rfl⟩
abbrev main_v279 : Ref sig .tc := ⟨.hbm, 550, rfl⟩
abbrev main_v280 : Ref sig .tc := ⟨.hbm, 551, rfl⟩
abbrev main_v281 : Ref sig .tc := ⟨.hbm, 552, rfl⟩
abbrev main_c_83 : Ref sig .tc := ⟨.hbm, 553, rfl⟩
abbrev main_call16_v0 : Ref sig .tc := ⟨.hbm, 554, rfl⟩
abbrev main_call16_v1 : Ref sig .tc := ⟨.hbm, 555, rfl⟩
abbrev main_call16_v2 : Ref sig .tc := ⟨.hbm, 556, rfl⟩
abbrev main_call16_v3 : Ref sig .tc := ⟨.hbm, 557, rfl⟩
abbrev main_call16_v4 : Ref sig .tc := ⟨.hbm, 558, rfl⟩
abbrev main_call16_v5 : Ref sig .tc := ⟨.hbm, 559, rfl⟩
abbrev main_call16_v6 : Ref sig .tc := ⟨.hbm, 560, rfl⟩
abbrev main_call16_v7 : Ref sig .tc := ⟨.hbm, 561, rfl⟩
abbrev main_call16_v8 : Ref sig .tc := ⟨.hbm, 562, rfl⟩
abbrev main_call16_c : Ref sig .tc := ⟨.hbm, 563, rfl⟩
abbrev main_call16_v9 : Ref sig .tc := ⟨.hbm, 564, rfl⟩
abbrev main_call16_v10 : Ref sig .tc := ⟨.hbm, 565, rfl⟩
abbrev main_call16_v11 : Ref sig .tc := ⟨.hbm, 566, rfl⟩
abbrev main_call16_c_0 : Ref sig .tc := ⟨.hbm, 567, rfl⟩
abbrev main_call16_v12 : Ref sig .tc := ⟨.hbm, 568, rfl⟩
abbrev main_call16_v13 : Ref sig .tc := ⟨.hbm, 569, rfl⟩
abbrev main_v282 : Ref sig .tc := ⟨.hbm, 570, rfl⟩
abbrev main_c_84 : Ref sig .tc := ⟨.hbm, 571, rfl⟩
abbrev main_c_85 : Ref sig .tc := ⟨.hbm, 572, rfl⟩
abbrev main_call17_v0 : Ref sig .tc := ⟨.hbm, 573, rfl⟩
abbrev main_call17_v1 : Ref sig .tc := ⟨.hbm, 574, rfl⟩
abbrev main_call17_v2 : Ref sig .tc := ⟨.hbm, 575, rfl⟩
abbrev main_call17_v3 : Ref sig .tc := ⟨.hbm, 576, rfl⟩
abbrev main_call17_v4 : Ref sig .tc := ⟨.hbm, 577, rfl⟩
abbrev main_v283 : Ref sig .tc := ⟨.hbm, 578, rfl⟩
abbrev main_c_86 : Ref sig .tc := ⟨.hbm, 579, rfl⟩
abbrev main_call18_v0 : Ref sig .tc := ⟨.hbm, 580, rfl⟩
abbrev main_call18_v1 : Ref sig .tc := ⟨.hbm, 581, rfl⟩
abbrev main_call18_v2 : Ref sig .tc := ⟨.hbm, 582, rfl⟩
abbrev main_call18_v3 : Ref sig .tc := ⟨.hbm, 583, rfl⟩
abbrev main_call18_v4 : Ref sig .tc := ⟨.hbm, 584, rfl⟩
abbrev main_call18_v5 : Ref sig .tc := ⟨.hbm, 585, rfl⟩
abbrev main_call18_v6 : Ref sig .tc := ⟨.hbm, 586, rfl⟩
abbrev main_call18_v7 : Ref sig .tc := ⟨.hbm, 587, rfl⟩
abbrev main_call18_v8 : Ref sig .tc := ⟨.hbm, 588, rfl⟩
abbrev main_call18_c : Ref sig .tc := ⟨.hbm, 589, rfl⟩
abbrev main_call18_v9 : Ref sig .tc := ⟨.hbm, 590, rfl⟩
abbrev main_call18_v10 : Ref sig .tc := ⟨.hbm, 591, rfl⟩
abbrev main_call18_v11 : Ref sig .tc := ⟨.hbm, 592, rfl⟩
abbrev main_call18_c_0 : Ref sig .tc := ⟨.hbm, 593, rfl⟩
abbrev main_call18_v12 : Ref sig .tc := ⟨.hbm, 594, rfl⟩
abbrev main_call18_v13 : Ref sig .tc := ⟨.hbm, 595, rfl⟩
abbrev main_v284 : Ref sig .tc := ⟨.hbm, 596, rfl⟩
abbrev main_c_87 : Ref sig .tc := ⟨.hbm, 597, rfl⟩
abbrev main_c_88 : Ref sig .tc := ⟨.hbm, 598, rfl⟩
abbrev main_call19_v0 : Ref sig .tc := ⟨.hbm, 599, rfl⟩
abbrev main_call19_v1 : Ref sig .tc := ⟨.hbm, 600, rfl⟩
abbrev main_call19_v2 : Ref sig .tc := ⟨.hbm, 601, rfl⟩
abbrev main_call19_v3 : Ref sig .tc := ⟨.hbm, 602, rfl⟩
abbrev main_call19_v4 : Ref sig .tc := ⟨.hbm, 603, rfl⟩
abbrev main_v285 : Ref sig .tc := ⟨.hbm, 604, rfl⟩
abbrev main_c_89 : Ref sig .tc := ⟨.hbm, 605, rfl⟩
abbrev main_v286 : Ref sig .tc := ⟨.hbm, 606, rfl⟩
abbrev main_v287 : Ref sig .tc := ⟨.hbm, 607, rfl⟩
abbrev main_v288 : Ref sig .tc := ⟨.hbm, 608, rfl⟩
abbrev main_v289 : Ref sig .tc := ⟨.hbm, 609, rfl⟩
abbrev main_v290 : Ref sig .tc := ⟨.hbm, 610, rfl⟩
abbrev main_cst_90 : Ref sig .tc := ⟨.hbm, 611, rfl⟩
abbrev main_v291 : Ref sig .tc := ⟨.hbm, 612, rfl⟩
abbrev main_v292 : Ref sig .tc := ⟨.hbm, 613, rfl⟩
abbrev main_v293 : Ref sig .tc := ⟨.hbm, 614, rfl⟩
abbrev main_c_91 : Ref sig .tc := ⟨.hbm, 615, rfl⟩
abbrev main_c_92 : Ref sig .tc := ⟨.hbm, 616, rfl⟩
abbrev main_call20_v0 : Ref sig .tc := ⟨.hbm, 617, rfl⟩
abbrev main_call20_v1 : Ref sig .tc := ⟨.hbm, 618, rfl⟩
abbrev main_call20_v2 : Ref sig .tc := ⟨.hbm, 619, rfl⟩
abbrev main_call20_v3 : Ref sig .tc := ⟨.hbm, 620, rfl⟩
abbrev main_call20_v4 : Ref sig .tc := ⟨.hbm, 621, rfl⟩
abbrev main_v294 : Ref sig .tc := ⟨.hbm, 622, rfl⟩
abbrev main_v295 : Ref sig .tc := ⟨.hbm, 623, rfl⟩
abbrev main_v296 : Ref sig .tc := ⟨.hbm, 624, rfl⟩
abbrev main_cst_93 : Ref sig .tc := ⟨.hbm, 625, rfl⟩
abbrev main_v297 : Ref sig .tc := ⟨.hbm, 626, rfl⟩
abbrev main_v298 : Ref sig .tc := ⟨.hbm, 627, rfl⟩
abbrev main_v299 : Ref sig .tc := ⟨.hbm, 628, rfl⟩
abbrev main_cst_94 : Ref sig .tc := ⟨.hbm, 629, rfl⟩
abbrev main_v300 : Ref sig .tc := ⟨.hbm, 630, rfl⟩
abbrev main_v301 : Ref sig .tc := ⟨.hbm, 631, rfl⟩
abbrev main_c_95 : Ref sig .tc := ⟨.hbm, 632, rfl⟩
abbrev main_v302 : Ref sig .tc := ⟨.hbm, 633, rfl⟩
abbrev main_v303 : Ref sig .tc := ⟨.hbm, 634, rfl⟩
abbrev main_c_96 : Ref sig .tc := ⟨.hbm, 635, rfl⟩
abbrev main_call21_v0 : Ref sig .tc := ⟨.hbm, 636, rfl⟩
abbrev main_call21_c : Ref sig .tc := ⟨.hbm, 637, rfl⟩
abbrev main_call21_v1 : Ref sig .tc := ⟨.hbm, 638, rfl⟩
abbrev main_call21_c_0 : Ref sig .tc := ⟨.hbm, 639, rfl⟩
abbrev main_call21_v2 : Ref sig .tc := ⟨.hbm, 640, rfl⟩
abbrev main_call21_v3 : Ref sig .tc := ⟨.hbm, 641, rfl⟩
abbrev main_call21_v4 : Ref sig .tc := ⟨.hbm, 642, rfl⟩
abbrev main_call21_c_1 : Ref sig .tc := ⟨.hbm, 643, rfl⟩
abbrev main_call21_v5 : Ref sig .tc := ⟨.hbm, 644, rfl⟩
abbrev main_call21_v6 : Ref sig .tc := ⟨.hbm, 645, rfl⟩
abbrev main_call21_c_2 : Ref sig .tc := ⟨.hbm, 646, rfl⟩
abbrev main_call21_v7 : Ref sig .tc := ⟨.hbm, 647, rfl⟩
abbrev main_call21_v8 : Ref sig .tc := ⟨.hbm, 648, rfl⟩
abbrev main_call21_c_3 : Ref sig .tc := ⟨.hbm, 649, rfl⟩
abbrev main_call21_v9 : Ref sig .tc := ⟨.hbm, 650, rfl⟩
abbrev main_call21_v10 : Ref sig .tc := ⟨.hbm, 651, rfl⟩
abbrev main_call21_v11 : Ref sig .tc := ⟨.hbm, 652, rfl⟩
abbrev main_call21_v12 : Ref sig .tc := ⟨.hbm, 653, rfl⟩
abbrev main_call21_v13 : Ref sig .tc := ⟨.hbm, 654, rfl⟩
abbrev main_call21_v14 : Ref sig .tc := ⟨.hbm, 655, rfl⟩
abbrev main_v304 : Ref sig .tc := ⟨.hbm, 656, rfl⟩
abbrev main_v305 : Ref sig .tc := ⟨.hbm, 657, rfl⟩
abbrev main_v306 : Ref sig .tc := ⟨.hbm, 658, rfl⟩
abbrev main_c_97 : Ref sig .tc := ⟨.hbm, 659, rfl⟩
abbrev main_v307 : Ref sig .tc := ⟨.hbm, 660, rfl⟩
abbrev main_v308 : Ref sig .tc := ⟨.hbm, 661, rfl⟩
abbrev main_v309 : Ref sig .tc := ⟨.hbm, 662, rfl⟩
abbrev main_v310 : Ref sig .tc := ⟨.hbm, 663, rfl⟩
abbrev main_v311 : Ref sig .tc := ⟨.hbm, 664, rfl⟩
abbrev main_v312 : Ref sig .tc := ⟨.hbm, 665, rfl⟩
abbrev main_v313 : Ref sig .tc := ⟨.hbm, 666, rfl⟩
abbrev main_v314 : Ref sig .tc := ⟨.hbm, 667, rfl⟩
abbrev main_v315 : Ref sig .tc := ⟨.hbm, 668, rfl⟩
abbrev main_v316 : Ref sig .tc := ⟨.hbm, 669, rfl⟩
abbrev main_v317 : Ref sig .tc := ⟨.hbm, 670, rfl⟩
abbrev main_cst_98 : Ref sig .tc := ⟨.hbm, 671, rfl⟩
abbrev main_v318 : Ref sig .tc := ⟨.hbm, 672, rfl⟩
abbrev main_c_99 : Ref sig .tc := ⟨.hbm, 673, rfl⟩
abbrev main_v319 : Ref sig .tc := ⟨.hbm, 674, rfl⟩
abbrev main_v320 : Ref sig .tc := ⟨.hbm, 675, rfl⟩
abbrev main_v321 : Ref sig .tc := ⟨.hbm, 676, rfl⟩
abbrev main_cst_100 : Ref sig .tc := ⟨.hbm, 677, rfl⟩
abbrev main_v322 : Ref sig .tc := ⟨.hbm, 678, rfl⟩
abbrev main_v323 : Ref sig .tc := ⟨.hbm, 679, rfl⟩
abbrev main_v324 : Ref sig .tc := ⟨.hbm, 680, rfl⟩
abbrev main_c_101 : Ref sig .tc := ⟨.hbm, 681, rfl⟩
abbrev main_v325 : Ref sig .tc := ⟨.hbm, 682, rfl⟩
abbrev main_v326 : Ref sig .tc := ⟨.hbm, 683, rfl⟩
abbrev main_c_102 : Ref sig .tc := ⟨.hbm, 684, rfl⟩
abbrev main_v327 : Ref sig .tc := ⟨.hbm, 685, rfl⟩
abbrev main_v328 : Ref sig .tc := ⟨.hbm, 686, rfl⟩
abbrev main_v329 : Ref sig .tc := ⟨.hbm, 687, rfl⟩
abbrev main_v330 : Ref sig .tc := ⟨.hbm, 688, rfl⟩
abbrev main_v331 : Ref sig .tc := ⟨.hbm, 689, rfl⟩
abbrev main_c_103 : Ref sig .tc := ⟨.hbm, 690, rfl⟩
abbrev main_v332 : Ref sig .tc := ⟨.hbm, 691, rfl⟩
abbrev main_v333 : Ref sig .tc := ⟨.hbm, 692, rfl⟩
abbrev main_v334 : Ref sig .tc := ⟨.hbm, 693, rfl⟩
abbrev main_v335 : Ref sig .tc := ⟨.hbm, 694, rfl⟩
abbrev main_c_104 : Ref sig .tc := ⟨.hbm, 695, rfl⟩
abbrev main_v336 : Ref sig .tc := ⟨.hbm, 696, rfl⟩
abbrev main_v337 : Ref sig .tc := ⟨.hbm, 697, rfl⟩
abbrev main_c_105 : Ref sig .tc := ⟨.hbm, 698, rfl⟩
abbrev main_v338 : Ref sig .tc := ⟨.hbm, 699, rfl⟩
abbrev main_v339 : Ref sig .tc := ⟨.hbm, 700, rfl⟩
abbrev main_v340 : Ref sig .tc := ⟨.hbm, 701, rfl⟩
abbrev main_v341 : Ref sig .tc := ⟨.hbm, 702, rfl⟩
abbrev main_v342 : Ref sig .tc := ⟨.hbm, 703, rfl⟩
abbrev main_v343 : Ref sig .tc := ⟨.hbm, 704, rfl⟩
abbrev main_v344 : Ref sig .tc := ⟨.hbm, 705, rfl⟩
abbrev main_v345 : Ref sig .tc := ⟨.hbm, 706, rfl⟩
abbrev main_v346 : Ref sig .tc := ⟨.hbm, 707, rfl⟩
abbrev main_v347 : Ref sig .tc := ⟨.hbm, 708, rfl⟩
abbrev main_v348 : Ref sig .tc := ⟨.hbm, 709, rfl⟩
abbrev main_v349 : Ref sig .tc := ⟨.hbm, 710, rfl⟩
abbrev main_v350 : Ref sig .tc := ⟨.hbm, 711, rfl⟩
abbrev main_v351 : Ref sig .tc := ⟨.hbm, 712, rfl⟩
abbrev main_v352 : Ref sig .tc := ⟨.hbm, 713, rfl⟩
abbrev main_v353 : Ref sig .tc := ⟨.hbm, 714, rfl⟩
abbrev main_v354 : Ref sig .tc := ⟨.hbm, 715, rfl⟩
abbrev main_cst_106 : Ref sig .tc := ⟨.hbm, 716, rfl⟩
abbrev main_v355 : Ref sig .tc := ⟨.hbm, 717, rfl⟩
abbrev main_v356 : Ref sig .tc := ⟨.hbm, 718, rfl⟩
abbrev main_cst_107 : Ref sig .tc := ⟨.hbm, 719, rfl⟩
abbrev main_v357 : Ref sig .tc := ⟨.hbm, 720, rfl⟩
abbrev main_v358 : Ref sig .tc := ⟨.hbm, 721, rfl⟩
abbrev main_v359 : Ref sig .tc := ⟨.hbm, 722, rfl⟩
abbrev main_v360 : Ref sig .tc := ⟨.hbm, 723, rfl⟩
abbrev main_v361 : Ref sig .tc := ⟨.hbm, 724, rfl⟩
abbrev main_cst_108 : Ref sig .tc := ⟨.hbm, 725, rfl⟩
abbrev main_v362 : Ref sig .tc := ⟨.hbm, 726, rfl⟩
abbrev main_v363 : Ref sig .tc := ⟨.hbm, 727, rfl⟩
abbrev main_v364 : Ref sig .tc := ⟨.hbm, 728, rfl⟩
abbrev main_cst_109 : Ref sig .tc := ⟨.hbm, 729, rfl⟩
abbrev main_v365 : Ref sig .tc := ⟨.hbm, 730, rfl⟩
abbrev main_v366 : Ref sig .tc := ⟨.hbm, 731, rfl⟩
abbrev main_cst_110 : Ref sig .tc := ⟨.hbm, 732, rfl⟩
abbrev main_v367 : Ref sig .tc := ⟨.hbm, 733, rfl⟩
abbrev main_v368 : Ref sig .tc := ⟨.hbm, 734, rfl⟩
abbrev main_v369 : Ref sig .tc := ⟨.hbm, 735, rfl⟩
abbrev main_v370 : Ref sig .tc := ⟨.hbm, 736, rfl⟩
abbrev main_v371 : Ref sig .tc := ⟨.hbm, 737, rfl⟩
abbrev main_v372 : Ref sig .tc := ⟨.hbm, 738, rfl⟩
abbrev main_v373 : Ref sig .tc := ⟨.hbm, 739, rfl⟩
abbrev main_v374 : Ref sig .tc := ⟨.hbm, 740, rfl⟩
abbrev main_v375 : Ref sig .tc := ⟨.hbm, 741, rfl⟩
abbrev main_v376 : Ref sig .tc := ⟨.hbm, 742, rfl⟩
abbrev main_v377 : Ref sig .tc := ⟨.hbm, 743, rfl⟩
abbrev main_v378 : Ref sig .tc := ⟨.hbm, 744, rfl⟩
abbrev main_v379 : Ref sig .tc := ⟨.hbm, 745, rfl⟩
abbrev main_v380 : Ref sig .tc := ⟨.hbm, 746, rfl⟩

abbrev nD : Nat := 1
abbrev τ : Topo := Topo.v7x

variable {F : FTy → Type} [FloatOps F]
-- ==== Proof.Scalars.lean ====
/- The mathematics of one pixel, one vote, one cell and one block over the extended reals, free of any program. -/
module

public import Idealize.ShloMosaic.PureOps.Ideal
public import Idealize.ShloMosaic.Lib.Pointwise

@[expose] public section

set_option maxRecDepth 16384

noncomputable section

namespace Cert.Hog

open Idealize.ShloMosaic

/-! ## The constants -/

/-- The smoothing constant of the magnitude and of the block norm. -/
def eps : EReal := Ideal.ofBits .f32 0x358637BD#32

/-- The smoothing constant is a positive real. -/
theorem eps_pos : ∃ r : ℝ, 0 < r ∧ eps = (r : EReal) := by
  refine ⟨8796093 * (2 : ℝ) ^ (-43 : ℤ), by positivity, ?_⟩
  unfold eps
  simp [Ideal.ofBits, Ideal.ieee, -EReal.coe_mul]

/-- The word `0x3E800000` denotes a quarter. -/
theorem ofBits_quarter : Ideal.ofBits .f32 0x3E800000#32 = ((1 / 4 : ℝ) : EReal) := by
  simp [Ideal.ofBits, Ideal.ieee, -EReal.coe_mul]; norm_num

/-- The word `0xBF800000` denotes minus one. -/
theorem ofBits_neg_one : Ideal.ofBits .f32 0xBF800000#32 = ((-1 : ℝ) : EReal) := by
  simp [Ideal.ofBits, Ideal.ieee, -EReal.coe_mul]; norm_num

/-- The word `0xC0000000` denotes minus two. -/
theorem ofBits_neg_two : Ideal.ofBits .f32 0xC0000000#32 = ((-2 : ℝ) : EReal) := by
  simp [Ideal.ofBits, Ideal.ieee, -EReal.coe_mul]; norm_num

/-- The word `0x41B40000` denotes 22.5. -/
theorem ofBits_w8 : Ideal.ofBits .f32 0x41B40000#32 = ((45 / 2 : ℝ) : EReal) := by
  simp [Ideal.ofBits, Ideal.ieee, -EReal.coe_mul]; norm_num

/-- The word `0x41A00000` denotes 20. -/
theorem ofBits_w9 : Ideal.ofBits .f32 0x41A00000#32 = ((20 : ℝ) : EReal) := by
  simp [Ideal.ofBits, Ideal.ieee, -EReal.coe_mul]; norm_num

/-- The word `0x41F00000` denotes 30. -/
theorem ofBits_w6 : Ideal.ofBits .f32 0x41F00000#32 = ((30 : ℝ) : EReal) := by
  simp [Ideal.ofBits, Ideal.ieee, -EReal.coe_mul]; norm_num

/-- The float words of the numbers 0 to 8. -/
def word : Fin 9 → BitVec 32 :=
  ![0x00000000#32, 0x3F800000#32, 0x40000000#32, 0x40400000#32, 0x40800000#32, 0x40A00000#32, 0x40C00000#32,
    0x40E00000#32, 0x41000000#32]

/-- Each of those words denotes its number. -/
theorem ofBits_word (k : Fin 9) : Ideal.ofBits .f32 (word k) = (((k : ℕ) : ℝ) : EReal) := by
  fin_cases k <;> simp [word, Ideal.ofBits, Ideal.ieee, -EReal.coe_mul] <;> norm_num

/-- Two, as the word the programs spell it with. -/
theorem ofBits_two : Ideal.ofBits .f32 0x40000000#32 = ((2 : ℝ) : EReal) := by
  exact (ofBits_word 2).trans (by simp)

/-- One, as the word the programs spell it with. -/
theorem ofBits_one : Ideal.ofBits .f32 0x3F800000#32 = ((1 : ℝ) : EReal) := by
  exact (ofBits_word 1).trans (by simp)

/-! ## Infinite values -/

/-- The value is one of the two infinities. -/
def IsInf (x : EReal) : Prop := x = ⊤ ∨ x = ⊥

/-- A value that is no infinity is a real. -/
theorem exists_real {x : EReal} (h : ¬ IsInf x) : ∃ r : ℝ, x = (r : EReal) := by
  induction x using EReal.rec with
  | bot => exact (h (Or.inr rfl)).elim
  | top => exact (h (Or.inl rfl)).elim
  | coe r => exact ⟨r, rfl⟩

/-- A real is no infinity. -/
theorem not_isInf_coe (r : ℝ) : ¬ IsInf (r : EReal) := by
  simp [IsInf]

/-- A sum is infinite exactly when a summand is. -/
theorem isInf_add (x y : EReal) : IsInf (x + y) ↔ IsInf x ∨ IsInf y := by
  induction x using EReal.rec <;> induction y using EReal.rec <;> simp [IsInf, ← EReal.coe_add]

/-- The negative is infinite exactly when the value is. -/
theorem isInf_neg (x : EReal) : IsInf (-x) ↔ IsInf x := by
  induction x using EReal.rec <;> simp [IsInf, ← EReal.coe_neg]

/-- A difference is infinite exactly when one of its two sides is. -/
theorem isInf_sub (x y : EReal) : IsInf (x - y) ↔ IsInf x ∨ IsInf y := by
  rw [sub_eq_add_neg, isInf_add, isInf_neg]

/-- A nonzero real multiple is infinite exactly when the value is. -/
theorem isInf_coe_mul {r : ℝ} (h : r ≠ 0) (x : EReal) : IsInf ((r : EReal) * x) ↔ IsInf x := by
  induction x using EReal.rec with
  | coe s => simp [IsInf, ← EReal.coe_mul]
  | bot => rcases lt_or_gt_of_ne h with h | h <;> simp [IsInf, h, EReal.coe_mul_bot_of_pos, EReal.coe_mul_bot_of_neg]
  | top => rcases lt_or_gt_of_ne h with h | h <;> simp [IsInf, h, EReal.coe_mul_top_of_pos, EReal.coe_mul_top_of_neg]

/-- Two gradients that count as the same: equal, or both infinite. -/
def Agree (x y : EReal) : Prop := x = y ∨ (IsInf x ∧ IsInf y)

/-! ## The gradients -/

/-- The gradient across an edge from the smoothed near side `a b c` to the smoothed far side `d e f`. -/
def grad (a b c d e f : EReal) : EReal :=
  Ideal.ofBits .f32 0x3E800000#32
    * ((a + Ideal.ofBits .f32 0x40000000#32 * b + c) - (d + Ideal.ofBits .f32 0x40000000#32 * e + f))

/-- The horizontal gradient accumulated row by row agrees with `grad`. -/
theorem grad_rows (a b c d e f : EReal) :
    Agree (grad a b c d e f)
      ((Ideal.ofBits .f32 0x3F800000#32 * a + Ideal.ofBits .f32 0xBF800000#32 * d
        + Ideal.ofBits .f32 0x40000000#32 * b + Ideal.ofBits .f32 0xC0000000#32 * e
        + Ideal.ofBits .f32 0x3F800000#32 * c + Ideal.ofBits .f32 0xBF800000#32 * f) * Ideal.ofBits .f32 0x3E800000#32) := by
  unfold grad
  rw [ofBits_quarter, ofBits_two, ofBits_one, ofBits_neg_one, ofBits_neg_two, mul_comm _ ((1 / 4 : ℝ) : EReal)]
  by_cases h : IsInf a ∨ IsInf b ∨ IsInf c ∨ IsInf d ∨ IsInf e ∨ IsInf f
  · right
    simp only [isInf_add, isInf_sub, isInf_coe_mul (show (1 / 4 : ℝ) ≠ 0 by norm_num), isInf_coe_mul (show (2 : ℝ) ≠ 0 by norm_num),
      isInf_coe_mul (show (1 : ℝ) ≠ 0 by norm_num), isInf_coe_mul (show (-1 : ℝ) ≠ 0 by norm_num),
      isInf_coe_mul (show (-2 : ℝ) ≠ 0 by norm_num)]
    constructor <;> tauto
  · left
    simp only [not_or] at h
    obtain ⟨ha, hb, hc, hd, he, hf⟩ := h
    obtain ⟨a, rfl⟩ := exists_real ha
    obtain ⟨b, rfl⟩ := exists_real hb
    obtain ⟨c, rfl⟩ := exists_real hc
    obtain ⟨d, rfl⟩ := exists_real hd
    obtain ⟨e, rfl⟩ := exists_real he
    obtain ⟨f, rfl⟩ := exists_real hf
    simp only [← EReal.coe_mul, ← EReal.coe_add, ← EReal.coe_sub]
    congr 1
    ring

/-- The vertical gradient accumulated near side first agrees with `grad`. -/
theorem grad_sides (a b c d e f : EReal) :
    Agree (grad a b c d e f)
      ((Ideal.ofBits .f32 0x3F800000#32 * a + Ideal.ofBits .f32 0x40000000#32 * b
        + Ideal.ofBits .f32 0x3F800000#32 * c + Ideal.ofBits .f32 0xBF800000#32 * d
        + Ideal.ofBits .f32 0xC0000000#32 * e + Ideal.ofBits .f32 0xBF800000#32 * f) * Ideal.ofBits .f32 0x3E800000#32) := by
  have h := grad_rows a b c d e f
  have r : ∀ p q s t u v w : EReal, (p + q + s + t + u + v) * w = (p + t + q + u + s + v) * w := by
    intros; congr 1; ac_rfl
  rwa [r]

/-! ## Magnitude and angle -/

/-- The gradient's magnitude, smoothed. -/
def mag (gx gy : EReal) : EReal := Ideal.sqrt (gx * gx + gy * gy + eps)

/-- A square is not negative. -/
theorem sq_nonneg' (x : EReal) : 0 ≤ x * x := by
  induction x using EReal.rec with
  | bot => simp
  | top => simp
  | coe r => rw [← EReal.coe_mul]; exact_mod_cast mul_self_nonneg r

/-- The square of an infinity is plus infinity. -/
theorem isInf_sq {x : EReal} (h : IsInf x) : x * x = ⊤ := by
  rcases h with rfl | rfl <;> simp

/-- With an infinite gradient the magnitude is plus infinity. -/
theorem mag_of_isInf {gx gy : EReal} (h : IsInf gx ∨ IsInf gy) : mag gx gy = ⊤ := by
  obtain ⟨r, hr, he⟩ := eps_pos
  have hn : ∀ x : EReal, x * x ≠ ⊥ := fun x hx => by
    have := sq_nonneg' x
    rw [hx] at this
    simp at this
  have hs : gx * gx + gy * gy = ⊤ := by
    rcases h with h | h
    · rw [isInf_sq h]; exact EReal.top_add_of_ne_bot (hn gy)
    · rw [isInf_sq h]; exact EReal.add_top_of_ne_bot (hn gx)
  unfold mag
  rw [hs, he, EReal.top_add_coe]
  rfl

/-- With an infinite gradient the angle is the junk value. -/
theorem atan2_of_isInf {gx gy : EReal} (h : IsInf gx ∨ IsInf gy) : Ideal.atan2 gy gx = ⊥ := by
  rcases h with (rfl | rfl) | (rfl | rfl)
  · induction gy using EReal.rec <;> rfl
  · induction gy using EReal.rec <;> rfl
  · rfl
  · rfl

/-- Agreeing gradients have the same magnitude and the same angle. -/
theorem polar_congr {gx gy gx' gy' : EReal} (hx : Agree gx gx') (hy : Agree gy gy') :
    mag gx' gy' = mag gx gy ∧ Ideal.atan2 gy' gx' = Ideal.atan2 gy gx := by
  by_cases h : IsInf gx ∨ IsInf gy
  · have h' : IsInf gx' ∨ IsInf gy' := by
      rcases h with h | h
      · rcases hx with e | e
        · exact Or.inl (e ▸ h)
        · exact Or.inl e.2
      · rcases hy with e | e
        · exact Or.inr (e ▸ h)
        · exact Or.inr e.2
    rw [mag_of_isInf h, mag_of_isInf h', atan2_of_isInf h, atan2_of_isInf h']
    exact ⟨rfl, rfl⟩
  · simp only [not_or] at h
    rcases hx with rfl | e
    · rcases hy with rfl | e
      · exact ⟨rfl, rfl⟩
      · exact (h.2 e.1).elim
    · exact (h.1 e.1).elim

/-- The angle in degrees, turned by half a turn and reduced modulo 180 to be not negative. -/
def degrees (a : EReal) : EReal :=
  let r := Ideal.remf (a * Ideal.ofBits .f32 0x42652EE1#32 + Ideal.ofBits .f32 0x43340000#32) (Ideal.ofBits .f32 0x43340000#32)
  Scalar.select (Ideal.cmp .olt r 0) (r + Ideal.ofBits .f32 0x43340000#32) r

/-- 180 is not negative. -/
theorem ofBits_180_nonneg : ¬ Ideal.ofBits .f32 0x43340000#32 < 0 := by
  have h : Ideal.ofBits .f32 0x43340000#32 = ((180 : ℝ) : EReal) := by
    simp [Ideal.ofBits, Ideal.ieee, -EReal.coe_mul]; norm_num
  rw [h, not_lt]
  exact_mod_cast (by norm_num : (0 : ℝ) ≤ 180)

/-! ## Bins and votes -/

/-- The bin of the scaled angle `x` among the bins `0 … m`: its integer part, clipped. -/
def bin (m : ℕ) (x : EReal) : ℕ := (Ideal.toIntClamped 0 m x).toNat

/-- The clipped integer part is one of the bins. -/
theorem bin_le (m : ℕ) (x : EReal) : bin m x ≤ m := by
  unfold bin
  induction x using EReal.rec with
  | bot => simp
  | top => simp
  | coe r => rw [Ideal.toIntClamped_coe]; omega

/-- The floor clipped to `0 … m` is the bin. -/
theorem clip_floor (m : ℕ) (x : EReal) :
    min ((m : ℝ) : EReal) (max 0 (Ideal.liftRound Int.floor x)) = ((bin m x : ℝ) : EReal) := by
  unfold bin
  induction x using EReal.rec with
  | bot =>
    simp only [Ideal.liftRound_bot, Ideal.toIntClamped_bot, Int.toNat_zero, Nat.cast_zero, EReal.coe_zero]
    rw [max_eq_left bot_le, min_eq_right]
    exact_mod_cast Nat.zero_le m
  | top =>
    simp only [Ideal.liftRound_top, Ideal.toIntClamped_top, Int.toNat_natCast]
    rw [max_eq_right le_top, min_eq_left le_top]
  | coe r =>
    rw [Ideal.liftRound_coe, Ideal.toIntClamped_coe]
    have h : ((max (0 : ℤ) (min (m : ℤ) (if 0 ≤ r then ⌊r⌋ else ⌈r⌉))).toNat : ℤ) = min (m : ℤ) (max 0 ⌊r⌋) := by
      have e : max (0 : ℤ) (min (m : ℤ) (if 0 ≤ r then ⌊r⌋ else ⌈r⌉)) = min (m : ℤ) (max 0 ⌊r⌋) := by
        split_ifs with hr
        · have : 0 ≤ ⌊r⌋ := Int.floor_nonneg.2 hr
          omega
        · have h1 : ⌈r⌉ ≤ 0 := Int.ceil_le.2 (by push_cast; linarith)
          have h2 : ⌊r⌋ < 0 := Int.floor_lt.2 (by push_cast; linarith)
          omega
      rw [e]
      omega
    have h' : (((max (0 : ℤ) (min (m : ℤ) (if 0 ≤ r then ⌊r⌋ else ⌈r⌉))).toNat : ℝ)) = min (m : ℝ) (max 0 (⌊r⌋ : ℝ)) := by
      have := congrArg (fun z : ℤ => (z : ℝ)) h
      push_cast at this
      exact this
    rw [h', EReal.coe_strictMono.monotone.map_min, EReal.coe_strictMono.monotone.map_max]
    rfl

/-- Converting a bin to a 32-bit word and back leaves it as it is: the word. -/
theorem fptosi_nat {k : ℕ} (h : k < 2 ^ 31) : Ideal.fptosi 32 ((k : ℝ) : EReal) = BitVec.ofNat 32 k := by
  unfold Ideal.fptosi
  rw [Ideal.toIntClamped_coe, if_pos (by positivity), Int.floor_natCast]
  have : max (-((2 ^ (32 - 1) : ℕ) : ℤ)) (min (((2 ^ (32 - 1) : ℕ) : ℤ) - 1) (k : ℤ)) = (k : ℤ) := by
    norm_num; omega
  rw [this, BitVec.ofInt_natCast]

/-- What a pixel of magnitude `M` and angle `A` votes for bin `k` among the bins `0 … m` of width `w` (inverse `i`):
    the part of `M` that the angle's place within its bin leaves to that bin, and the rest to the next bin around. -/
def vote (m : ℕ) (w i M A : EReal) (k : ℕ) : EReal :=
  (if bin m (A * i) = k then M * (1 - (A - ((bin m (A * i) : ℝ) : EReal) * w) * i) else 0)
    + (if (bin m (A * i) + 1) % (m + 1) = k then M * ((A - ((bin m (A * i) : ℝ) : EReal) * w) * i) else 0)

/-! ## Cells -/

/-- The sum over the cell `(cy, cx)` of the pixels' values: cells are `c` pixels wide, the last one (number `l`) taking
    what is left over. -/
def cell (c l : ℕ) (V : Fin 28 → Fin 28 → EReal) (cy cx : ℕ) : EReal :=
  ∑ y : Fin 28, ∑ x : Fin 28, if min ((y : ℕ) / c) l = cy ∧ min ((x : ℕ) / c) l = cx then V y x else 0

/-- A cell's sum, rows outside. -/
theorem cell_rows (c l : ℕ) (V : Fin 28 → Fin 28 → EReal) (cy cx : ℕ) :
    cell c l V cy cx = ∑ y : Fin 28, if min ((y : ℕ) / c) l = cy then
      (∑ x : Fin 28, if min ((x : ℕ) / c) l = cx then V y x else 0) else 0 := by
  unfold cell
  refine Finset.sum_congr rfl fun y _ => ?_
  by_cases h : min ((y : ℕ) / c) l = cy
  · simp only [h, true_and, if_true]
  · simp only [h, false_and, if_false, Finset.sum_const_zero]

/-- A line of `J` segments of `T` entries: the sum over segment `j`. -/
theorem sum_segment {N : ℕ} (J T : ℕ) (hN : J * T = N) (g : Fin N → EReal) (j : ℕ) (hj : j < J) :
    (∑ y : Fin N, if min ((y : ℕ) / T) (J - 1) = j then g y else 0)
      = ∑ t : Fin T, g ⟨j * T + t, by
          have := t.isLt
          have h2 : (j + 1) * T ≤ J * T := Nat.mul_le_mul_right T hj
          rw [Nat.succ_mul] at h2
          omega⟩ := by
  subst hN
  rw [Fin.sum_univ_tiles J T rfl]
  rw [Finset.sum_eq_single (⟨j, hj⟩ : Fin J)]
  · refine Finset.sum_congr rfl fun t _ => ?_
    rw [if_pos]
    have hT : 0 < T := Nat.lt_of_le_of_lt (Nat.zero_le _) t.isLt
    show min ((j * T + t) / T) (J - 1) = j
    rw [Nat.mul_comm, Nat.mul_add_div hT, Nat.div_eq_of_lt t.isLt]
    omega
  · intro b _ hb
    refine Finset.sum_eq_zero fun t _ => if_neg fun h => hb (Fin.ext ?_)
    have hT : 0 < T := Nat.lt_of_le_of_lt (Nat.zero_le _) t.isLt
    change min ((b * T + t) / T) (J - 1) = j at h
    rw [Nat.mul_comm, Nat.mul_add_div hT, Nat.div_eq_of_lt t.isLt] at h
    have := b.isLt
    show (b : ℕ) = j
    omega
  · intro h; exact (h (Finset.mem_univ _)).elim

/-- The same over a line with one entry left over, which the last segment takes. -/
theorem sum_segment_rest (g : Fin 28 → EReal) (j : ℕ) (hj : j < 9) :
    (∑ y : Fin 28, if min ((y : ℕ) / 3) 8 = j then g y else 0)
      = (∑ t : Fin 3, g ⟨j * 3 + t, by omega⟩) + (if j = 8 then g 27 else 0) := by
  refine (Fin.sum_univ_castSucc (n := 27) _).trans ?_
  refine congrArg₂ (· + ·) ?_ ?_
  · exact sum_segment 9 3 rfl (fun y : Fin 27 => g y.castSucc) j hj
  · have h : min (((Fin.last 27 : Fin 28) : ℕ) / 3) 8 = 8 := by decide
    rw [h]
    by_cases e : j = 8
    · subst e; rfl
    · rw [if_neg e, if_neg (Ne.symm e)]

/-- A cell's sum, columns outside. -/
theorem cell_cols (c l : ℕ) (V : Fin 28 → Fin 28 → EReal) (cy cx : ℕ) :
    cell c l V cy cx = ∑ x : Fin 28, if min ((x : ℕ) / c) l = cx then
      (∑ y : Fin 28, if min ((y : ℕ) / c) l = cy then V y x else 0) else 0 := by
  unfold cell
  rw [Finset.sum_comm]
  refine Finset.sum_congr rfl fun x _ => ?_
  by_cases h : min ((x : ℕ) / c) l = cx
  · simp only [h, and_true, if_true]
  · simp only [h, and_false, if_false, Finset.sum_const_zero]

/-- A cell's sum where cells of four cover the image exactly. -/
theorem cell_four (V : Fin 28 → Fin 28 → EReal) (cy cx : ℕ) (hy : cy < 7) (hx : cx < 7) :
    cell 4 6 V cy cx = ∑ s : Fin 4, ∑ t : Fin 4, V ⟨cy * 4 + t, by omega⟩ ⟨cx * 4 + s, by omega⟩ := by
  rw [cell_cols]
  refine (sum_segment 7 4 rfl _ cx hx).trans (Finset.sum_congr rfl fun s _ => ?_)
  exact sum_segment 7 4 rfl _ cy hy

/-- A cell's sum where cells of two cover the image exactly. -/
theorem cell_two (V : Fin 28 → Fin 28 → EReal) (cy cx : ℕ) (hy : cy < 14) (hx : cx < 14) :
    cell 2 13 V cy cx = ∑ s : Fin 2, ∑ t : Fin 2, V ⟨cy * 2 + t, by omega⟩ ⟨cx * 2 + s, by omega⟩ := by
  rw [cell_cols]
  refine (sum_segment 14 2 rfl _ cx hx).trans (Finset.sum_congr rfl fun s _ => ?_)
  exact sum_segment 14 2 rfl _ cy hy

/-- A cell's sum for cells of three, the last cell of a line taking the entry left over. -/
theorem cell_three (V : Fin 28 → Fin 28 → EReal) (cy cx : ℕ) (hy : cy < 9) (hx : cx < 9) :
    cell 3 8 V cy cx
      = (∑ s : Fin 3, ((∑ t : Fin 3, V ⟨cy * 3 + t, by omega⟩ ⟨cx * 3 + s, by omega⟩)
            + if cy = 8 then V 27 ⟨cx * 3 + s, by omega⟩ else 0))
        + (if cx = 8 then (∑ t : Fin 3, V ⟨cy * 3 + t, by omega⟩ 27) + (if cy = 8 then V 27 27 else 0) else 0) := by
  rw [cell_cols]
  refine (sum_segment_rest _ cx hx).trans ?_
  simp only [sum_segment_rest _ cy hy]

/-! ## Blocks -/

/-- A line of values divided by its smoothed length. -/
def unit {N : ℕ} (v : Fin N → EReal) (j : Fin N) : EReal := v j * Ideal.rsqrt ((∑ k, v k * v k) + eps)

/-- A block's normalization: to unit length, clipped at 0.2, to unit length again. -/
def normed {N : ℕ} (v : Fin N → EReal) (j : Fin N) : EReal :=
  unit (fun k => min (unit v k) (Ideal.ofBits .f32 0x3E4CCCCD#32)) j

/-- A sum of squares is not negative. -/
theorem sum_sq_nonneg {N : ℕ} (v : Fin N → EReal) : 0 ≤ ∑ k, v k * v k :=
  Finset.sum_nonneg fun k _ => sq_nonneg' (v k)

/-- Dividing by the root of a smoothed sum of squares is multiplying by its inverse root. -/
theorem div_sqrt {s : EReal} (hs : 0 ≤ s) (x : EReal) : Ideal.div x (Ideal.sqrt (s + eps)) = x * Ideal.rsqrt (s + eps) := by
  obtain ⟨e, he, hE⟩ := eps_pos
  rw [hE]
  induction s using EReal.rec with
  | bot => simp at hs
  | top =>
    rw [EReal.top_add_coe, Ideal.sqrt_top, Ideal.rsqrt_top]
    unfold Ideal.div
    rw [if_neg (by simp), EReal.inv_top]
  | coe r =>
    have hr : 0 ≤ r := by exact_mod_cast hs
    have hp : 0 < r + e := by linarith
    rw [← EReal.coe_add, Ideal.sqrt_coe, Ideal.rsqrt_coe, if_neg (by linarith), if_neg (by linarith), if_neg (by linarith),
      Ideal.div_coe (Real.sqrt_ne_zero'.2 hp), one_div]

/-- The division form of `unit`. -/
theorem div_unit {N : ℕ} (v : Fin N → EReal) (j : Fin N) :
    Ideal.div (v j) (Ideal.sqrt ((∑ k, v k * v k) + eps)) = unit v j :=
  div_sqrt (sum_sq_nonneg v) (v j)

/-- The division form of `normed`. -/
theorem div_normed {N : ℕ} (v u : Fin N → EReal) (j : Fin N)
    (hu : ∀ k, u k = min (Ideal.div (v k) (Ideal.sqrt ((∑ l, v l * v l) + eps))) (Ideal.ofBits .f32 0x3E4CCCCD#32)) :
    Ideal.div (u j) (Ideal.sqrt ((∑ k, u k * u k) + eps)) = normed v j := by
  rw [div_unit]
  have : u = fun k => min (unit v k) (Ideal.ofBits .f32 0x3E4CCCCD#32) := funext fun k => by rw [hu, div_unit]
  rw [this]
  rfl

/-- Multiplying by the inverse of a nonzero value is dividing by it. -/
theorem mul_inv_div {s : EReal} (hs : s ≠ 0) (x : EReal) : x * Ideal.div 1 s = Ideal.div x s := by
  unfold Ideal.div
  rw [if_neg hs, if_neg hs, one_mul]

/-- The word 0 as a number. -/
theorem sitofp_zero : (FloatOps.sitofp (F := Ideal) FTy.f32 (0#32) : Ideal .f32) = 0 := by
  show (((0#32 : BitVec 32).toInt : ℝ) : EReal) = 0
  simp

end Cert.Hog

end
-- ==== Proof.KernelParts.lean ====
/- The kernel body's repeated steps, each stated once as a function of its operands and read at one entry. -/
module

public import proofs.«01_k».proof.Proof.Scalars
public import proofs.«01_k».proof.Proof.Gen.KernelIdeal.Frame
public import Idealize.ShloMosaic.Lib.Pointwise

@[expose] public section

set_option maxRecDepth 16384

noncomputable section

namespace Cert.Hog

open Idealize.ShloMosaic
open Cert.KernelIdeal Cert.KernelIdeal.Gen

/-! ## The steps -/

/-- The votes of all pixels for one bin: the first weight where the pixel's bin is `kw`, the second where it is `pw`. -/
def picked (kw pw : BitVec 32) (b0 w0 w1 : FVec Ideal S28x28x128 .f32) : FVec Ideal S28x28x128 .f32 :=
  addf (select (cmpf .oeq b0 (broadcast S28x28x128 (Scalar.ofBits .f32 kw))) w0
      (broadcast S28x28x128 (Scalar.ofBits .f32 0x00000000#32)))
    (select (cmpf .oeq b0 (broadcast S28x28x128 (Scalar.ofBits .f32 pw))) w1
      (broadcast S28x28x128 (Scalar.ofBits .f32 0x00000000#32)))

/-- The sums over cells of four by four pixels. -/
def pool4 (v : FVec Ideal S28x28x128 .f32) : FVec Ideal S7x7x128 .f32 :=
  multiReduction .add [2] S7x7x128
    (shapeCast S7x7x4x128
      (multiReduction .add [1] S7x28x128 (shapeCast S7x4x28x128 v shapeCasts_S28x28x128_S7x4x28x128) 0x00000000#32
        reduces_S7x4x28x128_S7x28x128 (.inl rfl) rfl)
      shapeCasts_S7x28x128_S7x7x4x128) 0x00000000#32 reduces_S7x7x4x128_S7x7x128 (.inl rfl) rfl

/-- The sums over cells of two by two pixels. -/
def pool2 (v : FVec Ideal S28x28x128 .f32) : FVec Ideal S14x14x128 .f32 :=
  multiReduction .add [2] S14x14x128
    (shapeCast S14x14x2x128
      (multiReduction .add [1] S14x28x128 (shapeCast S14x2x28x128 v shapeCasts_S28x28x128_S14x2x28x128) 0x00000000#32
        reduces_S14x2x28x128_S14x28x128 (.inl rfl) rfl)
      shapeCasts_S14x28x128_S14x14x2x128) 0x00000000#32 reduces_S14x14x2x128_S14x14x128 (.inl rfl) rfl

/-- The sums over three rows each, the last taking row 27 too. -/
def rows3 (v : FVec Ideal S28x28x128 .f32) : FVec Ideal S9x28x128 .f32 :=
  have p : FVec Ideal S9x28x128 .f32 := multiReduction .add [1] S9x28x128
    (shapeCast S9x3x28x128 (extractStridedSlice S27x28x128 ![0, 0, 0] v slices_S28x28x128_o0_0_0_S27x28x128)
      shapeCasts_S27x28x128_S9x3x28x128) 0x00000000#32 reduces_S9x3x28x128_S9x28x128 (.inl rfl) rfl
  have e : FVec Ideal S1x28x128 .f32 := shapeCast S1x28x128
    (multiReduction .add [0] S28x128 (extractStridedSlice S1x28x128 ![27, 0, 0] v slices_S28x28x128_o27_0_0_S1x28x128)
      0x00000000#32 reduces_S1x28x128_S28x128 (.inl rfl) rfl) shapeCasts_S28x128_S1x28x128
  concatenate S9x28x128 0
    [⟨S8x28x128, extractStridedSlice S8x28x128 ![0, 0, 0] p slices_S9x28x128_o0_0_0_S8x28x128⟩,
     ⟨S1x28x128, addf (extractStridedSlice S1x28x128 ![8, 0, 0] p slices_S9x28x128_o8_0_0_S1x28x128) e⟩]
    concatenates_S8x28x128_S1x28x128_S9x28x128_d0

/-- The sums over three columns each, the last taking column 27 too. -/
def cols3 (q : FVec Ideal S9x28x128 .f32) : FVec Ideal S9x9x128 .f32 :=
  addf
    (multiReduction .add [2] S9x9x128
      (shapeCast S9x9x3x128 (extractStridedSlice S9x27x128 ![0, 0, 0] q slices_S9x28x128_o0_0_0_S9x27x128)
        shapeCasts_S9x27x128_S9x9x3x128) 0x00000000#32 reduces_S9x9x3x128_S9x9x128 (.inl rfl) rfl)
    (select (cmpi .eq (iota .tc S9x9x128 32 [1] iota_S9x9x128_d1_w32) (broadcast S9x9x128 8#32))
      (broadcastTo S9x9x128
        (shapeCast S9x1x128
          (shapeCast S9x1x128
            (multiReduction .add [1] S9x128 (extractStridedSlice S9x1x128 ![0, 27, 0] q slices_S9x28x128_o0_27_0_S9x1x128)
              0x00000000#32 reduces_S9x1x128_S9x128 (.inl rfl) rfl) shapeCasts_S9x128_S9x1x128)
          shapeCasts_S9x1x128_S9x1x128) broadcasts_S9x1x128_S9x9x128)
      (broadcast S9x9x128 (Scalar.ofBits .f32 0x00000000#32)))

/-- Eight cell tables stacked along the bins. -/
def stack8 (h : Fin 8 → FVec Ideal S7x7x128 .f32) : FVec Ideal S7x7x8x128 .f32 :=
  concatenate S7x7x8x128 2
    [⟨S7x7x1x128, shapeCast S7x7x1x128 (h 0) shapeCasts_S7x7x128_S7x7x1x128⟩,
     ⟨S7x7x1x128, shapeCast S7x7x1x128 (h 1) shapeCasts_S7x7x128_S7x7x1x128⟩,
     ⟨S7x7x1x128, shapeCast S7x7x1x128 (h 2) shapeCasts_S7x7x128_S7x7x1x128⟩,
     ⟨S7x7x1x128, shapeCast S7x7x1x128 (h 3) shapeCasts_S7x7x128_S7x7x1x128⟩,
     ⟨S7x7x1x128, shapeCast S7x7x1x128 (h 4) shapeCasts_S7x7x128_S7x7x1x128⟩,
     ⟨S7x7x1x128, shapeCast S7x7x1x128 (h 5) shapeCasts_S7x7x128_S7x7x1x128⟩,
     ⟨S7x7x1x128, shapeCast S7x7x1x128 (h 6) shapeCasts_S7x7x128_S7x7x1x128⟩,
     ⟨S7x7x1x128, shapeCast S7x7x1x128 (h 7) shapeCasts_S7x7x128_S7x7x1x128⟩]
    concatenates_S7x7x1x128_S7x7x1x128_S7x7x1x128_S7x7x1x128_S7x7x1x128_S7x7x1x128_S7x7x1x128_S7x7x1x128_S7x7x8x128_d2

/-- Nine cell tables stacked along the bins. -/
def stack9 (h : Fin 9 → FVec Ideal S9x9x128 .f32) : FVec Ideal S9x9x9x128 .f32 :=
  concatenate S9x9x9x128 2
    [⟨S9x9x1x128, shapeCast S9x9x1x128 (h 0) shapeCasts_S9x9x128_S9x9x1x128⟩,
     ⟨S9x9x1x128, shapeCast S9x9x1x128 (h 1) shapeCasts_S9x9x128_S9x9x1x128⟩,
     ⟨S9x9x1x128, shapeCast S9x9x1x128 (h 2) shapeCasts_S9x9x128_S9x9x1x128⟩,
     ⟨S9x9x1x128, shapeCast S9x9x1x128 (h 3) shapeCasts_S9x9x128_S9x9x1x128⟩,
     ⟨S9x9x1x128, shapeCast S9x9x1x128 (h 4) shapeCasts_S9x9x128_S9x9x1x128⟩,
     ⟨S9x9x1x128, shapeCast S9x9x1x128 (h 5) shapeCasts_S9x9x128_S9x9x1x128⟩,
     ⟨S9x9x1x128, shapeCast S9x9x1x128 (h 6) shapeCasts_S9x9x128_S9x9x1x128⟩,
     ⟨S9x9x1x128, shapeCast S9x9x1x128 (h 7) shapeCasts_S9x9x128_S9x9x1x128⟩,
     ⟨S9x9x1x128, shapeCast S9x9x1x128 (h 8) shapeCasts_S9x9x128_S9x9x1x128⟩]
    concatenates_S9x9x1x128_S9x9x1x128_S9x9x1x128_S9x9x1x128_S9x9x1x128_S9x9x1x128_S9x9x1x128_S9x9x1x128_S9x9x1x128_S9x9x9x128_d2

/-- Six cell tables stacked along the bins. -/
def stack6 (h : Fin 6 → FVec Ideal S14x14x128 .f32) : FVec Ideal S14x14x6x128 .f32 :=
  concatenate S14x14x6x128 2
    [⟨S14x14x1x128, shapeCast S14x14x1x128 (h 0) shapeCasts_S14x14x128_S14x14x1x128⟩,
     ⟨S14x14x1x128, shapeCast S14x14x1x128 (h 1) shapeCasts_S14x14x128_S14x14x1x128⟩,
     ⟨S14x14x1x128, shapeCast S14x14x1x128 (h 2) shapeCasts_S14x14x128_S14x14x1x128⟩,
     ⟨S14x14x1x128, shapeCast S14x14x1x128 (h 3) shapeCasts_S14x14x128_S14x14x1x128⟩,
     ⟨S14x14x1x128, shapeCast S14x14x1x128 (h 4) shapeCasts_S14x14x128_S14x14x1x128⟩,
     ⟨S14x14x1x128, shapeCast S14x14x1x128 (h 5) shapeCasts_S14x14x128_S14x14x1x128⟩]
    concatenates_S14x14x1x128_S14x14x1x128_S14x14x1x128_S14x14x1x128_S14x14x1x128_S14x14x1x128_S14x14x6x128_d2

/-- The blocks of two by two cells, eight bins each. -/
def quad8 (v : FVec Ideal S7x7x8x128 .f32) : FVec Ideal S6x6x32x128 .f32 :=
  concatenate S6x6x32x128 2
    [⟨S6x6x8x128, extractStridedSlice S6x6x8x128 ![0, 0, 0, 0] v slices_S7x7x8x128_o0_0_0_0_S6x6x8x128⟩,
     ⟨S6x6x8x128, extractStridedSlice S6x6x8x128 ![0, 1, 0, 0] v slices_S7x7x8x128_o0_1_0_0_S6x6x8x128⟩,
     ⟨S6x6x8x128, extractStridedSlice S6x6x8x128 ![1, 0, 0, 0] v slices_S7x7x8x128_o1_0_0_0_S6x6x8x128⟩,
     ⟨S6x6x8x128, extractStridedSlice S6x6x8x128 ![1, 1, 0, 0] v slices_S7x7x8x128_o1_1_0_0_S6x6x8x128⟩]
    concatenates_S6x6x8x128_S6x6x8x128_S6x6x8x128_S6x6x8x128_S6x6x32x128_d2

/-- The blocks of two by two cells, nine bins each. -/
def quad9 (v : FVec Ideal S9x9x9x128 .f32) : FVec Ideal S8x8x36x128 .f32 :=
  concatenate S8x8x36x128 2
    [⟨S8x8x9x128, extractStridedSlice S8x8x9x128 ![0, 0, 0, 0] v slices_S9x9x9x128_o0_0_0_0_S8x8x9x128⟩,
     ⟨S8x8x9x128, extractStridedSlice S8x8x9x128 ![0, 1, 0, 0] v slices_S9x9x9x128_o0_1_0_0_S8x8x9x128⟩,
     ⟨S8x8x9x128, extractStridedSlice S8x8x9x128 ![1, 0, 0, 0] v slices_S9x9x9x128_o1_0_0_0_S8x8x9x128⟩,
     ⟨S8x8x9x128, extractStridedSlice S8x8x9x128 ![1, 1, 0, 0] v slices_S9x9x9x128_o1_1_0_0_S8x8x9x128⟩]
    concatenates_S8x8x9x128_S8x8x9x128_S8x8x9x128_S8x8x9x128_S8x8x36x128_d2

/-- The blocks of two by two cells, six bins each. -/
def quad6 (v : FVec Ideal S14x14x6x128 .f32) : FVec Ideal S13x13x24x128 .f32 :=
  concatenate S13x13x24x128 2
    [⟨S13x13x6x128, extractStridedSlice S13x13x6x128 ![0, 0, 0, 0] v slices_S14x14x6x128_o0_0_0_0_S13x13x6x128⟩,
     ⟨S13x13x6x128, extractStridedSlice S13x13x6x128 ![0, 1, 0, 0] v slices_S14x14x6x128_o0_1_0_0_S13x13x6x128⟩,
     ⟨S13x13x6x128, extractStridedSlice S13x13x6x128 ![1, 0, 0, 0] v slices_S14x14x6x128_o1_0_0_0_S13x13x6x128⟩,
     ⟨S13x13x6x128, extractStridedSlice S13x13x6x128 ![1, 1, 0, 0] v slices_S14x14x6x128_o1_1_0_0_S13x13x6x128⟩]
    concatenates_S13x13x6x128_S13x13x6x128_S13x13x6x128_S13x13x6x128_S13x13x24x128_d2

/-- Each block of 32 values to unit length. -/
def once8 (v : FVec Ideal S6x6x32x128 .f32) : FVec Ideal S6x6x32x128 .f32 :=
  mulf v (broadcastTo S6x6x32x128
    (rsqrt (addf (shapeCast S6x6x1x128 (multiReduction .add [2] S6x6x128 (mulf v v) 0x00000000#32
      reduces_S6x6x32x128_S6x6x128 (.inl rfl) rfl) shapeCasts_S6x6x128_S6x6x1x128)
      (broadcast S6x6x1x128 (Scalar.ofBits .f32 0x358637BD#32)))) broadcasts_S6x6x1x128_S6x6x32x128)

/-- Each block of 36 values to unit length. -/
def once9 (v : FVec Ideal S8x8x36x128 .f32) : FVec Ideal S8x8x36x128 .f32 :=
  mulf v (broadcastTo S8x8x36x128
    (rsqrt (addf (shapeCast S8x8x1x128 (multiReduction .add [2] S8x8x128 (mulf v v) 0x00000000#32
      reduces_S8x8x36x128_S8x8x128 (.inl rfl) rfl) shapeCasts_S8x8x128_S8x8x1x128)
      (broadcast S8x8x1x128 (Scalar.ofBits .f32 0x358637BD#32)))) broadcasts_S8x8x1x128_S8x8x36x128)

/-- Each block of 24 values to unit length. -/
def once6 (v : FVec Ideal S13x13x24x128 .f32) : FVec Ideal S13x13x24x128 .f32 :=
  mulf v (broadcastTo S13x13x24x128
    (rsqrt (addf (shapeCast S13x13x1x128 (multiReduction .add [2] S13x13x128 (mulf v v) 0x00000000#32
      reduces_S13x13x24x128_S13x13x128 (.inl rfl) rfl) shapeCasts_S13x13x128_S13x13x1x128)
      (broadcast S13x13x1x128 (Scalar.ofBits .f32 0x358637BD#32)))) broadcasts_S13x13x1x128_S13x13x24x128)

/-- The clip at 0.2, for any shape. -/
def clipped {s : Shape} (v : FVec Ideal s .f32) : FVec Ideal s .f32 :=
  minimumf v (broadcast s (Scalar.ofBits .f32 0x3E4CCCCD#32))

/-! ## Their entries -/

/-- Entries of a rank three array at equal coordinates are equal. -/
theorem at3 {α : Type*} {n m k : ℕ} (v : (⟨3, ![n, m, k]⟩ : Shape).Idx → α) {a a' : Fin n} {b b' : Fin m} {c c' : Fin k}
    (ha : a = a') (hb : b = b') (hc : c = c') : v (ix3 a b c) = v (ix3 a' b' c') := by
  subst ha hb hc; rfl

/-- Entries of equal members of a family are equal. -/
theorem at_bin {ι β α : Type*} (h : ι → β → α) {k k' : ι} (e : k = k') (i : β) : h k i = h k' i := by
  subst e; rfl

/-- The votes for one bin at a pixel. -/
theorem picked_at (kw pw : BitVec 32) (b0 w0 w1 : FVec Ideal S28x28x128 .f32) (y x : Fin 28) (l : Fin 128) :
    picked kw pw b0 w0 w1 (ix3 y x l)
      = (if b0 (ix3 y x l) = Ideal.ofBits .f32 kw then w0 (ix3 y x l) else 0)
        + (if b0 (ix3 y x l) = Ideal.ofBits .f32 pw then w1 (ix3 y x l) else 0) := by
  pointwise [picked]

/-- A sum over a cell of four by four pixels. -/
theorem pool4_at (v : FVec Ideal S28x28x128 .f32) (cy cx : Fin 7) (l : Fin 128) :
    pool4 v (ix3 cy cx l) = cell 4 6 (fun y x => v (ix3 y x l)) cy cx := by
  rw [cell_four _ _ _ cy.isLt cx.isLt]
  pointwise [pool4]

/-- A sum over a cell of two by two pixels. -/
theorem pool2_at (v : FVec Ideal S28x28x128 .f32) (cy cx : Fin 14) (l : Fin 128) :
    pool2 v (ix3 cy cx l) = cell 2 13 (fun y x => v (ix3 y x l)) cy cx := by
  rw [cell_two _ _ _ cy.isLt cx.isLt]
  pointwise [pool2]

/-- A sum over three rows, with row 27 in the last. -/
theorem rows3_at (v : FVec Ideal S28x28x128 .f32) (cy : Fin 9) (x : Fin 28) (l : Fin 128) :
    rows3 v (ix3 cy x l) = (∑ t : Fin 3, v (ix3 ⟨(cy : ℕ) * 3 + t, by omega⟩ x l))
      + (if (cy : ℕ) = 8 then v (ix3 27 x l) else 0) := by
  pointwise [rows3]
  by_cases h : (cy : ℕ) < 8
  · rw [dif_pos h, if_neg (by omega), add_zero]
  · have e : (cy : ℕ) = 8 := by omega
    rw [dif_neg h, if_pos e]
    refine congrArg₂ (· + ·) (Finset.sum_congr rfl fun t _ => at3 v (Fin.ext ?_) rfl rfl) (by simp)
    show (8 + ((cy : ℕ) - 8)) * 3 + (t : ℕ) = (cy : ℕ) * 3 + t
    omega

/-- A sum over three columns, with column 27 in the last. -/
theorem cols3_at (q : FVec Ideal S9x28x128 .f32) (cy cx : Fin 9) (l : Fin 128) :
    cols3 q (ix3 cy cx l) = (∑ s : Fin 3, q (ix3 cy ⟨(cx : ℕ) * 3 + s, by omega⟩ l))
      + (if (cx : ℕ) = 8 then q (ix3 cy 27 l) else 0) := by
  pointwise [cols3]
  have hc : ∀ c : Fin 9, IntOp.cmpi .eq (BitVec.ofNat 32 (c : ℕ)) 8#32 = if (c : ℕ) = 8 then 1#1 else 0#1 := by decide
  rw [hc]
  by_cases e : (cx : ℕ) = 8
  · rw [if_pos e, if_pos e]
    simp [Scalar.select]
  · rw [if_neg e, if_neg e]
    simp [Scalar.select]

/-- A block of 32 values to unit length, at one value. -/
theorem once8_at (v : FVec Ideal S6x6x32x128 .f32) (a b : Fin 6) (j : Fin 32) (l : Fin 128) :
    once8 v (ix4 a b j l) = unit (fun j => v (ix4 a b j l)) j := by
  unfold unit
  pointwise [once8]
  rfl

/-- A block of 36 values to unit length, at one value. -/
theorem once9_at (v : FVec Ideal S8x8x36x128 .f32) (a b : Fin 8) (j : Fin 36) (l : Fin 128) :
    once9 v (ix4 a b j l) = unit (fun j => v (ix4 a b j l)) j := by
  unfold unit
  pointwise [once9]
  rfl

/-- A block of 24 values to unit length, at one value. -/
theorem once6_at (v : FVec Ideal S13x13x24x128 .f32) (a b : Fin 13) (j : Fin 24) (l : Fin 128) :
    once6 v (ix4 a b j l) = unit (fun j => v (ix4 a b j l)) j := by
  unfold unit
  pointwise [once6]
  rfl

/-- The sums over cells of three by three pixels, the last of a line taking what is left over. -/
theorem pool3_at (v : FVec Ideal S28x28x128 .f32) (cy cx : Fin 9) (l : Fin 128) :
    cols3 (rows3 v) (ix3 cy cx l) = cell 3 8 (fun y x => v (ix3 y x l)) cy cx := by
  rw [cell_three _ _ _ cy.isLt cx.isLt, cols3_at]
  simp only [rows3_at]

/-- The stacked tables at bin `k` are table `k`. -/
theorem stack8_at (h : Fin 8 → FVec Ideal S7x7x128 .f32) (a b : Fin 7) (k : Fin 8) (l : Fin 128) :
    stack8 h (ix4 a b k l) = h k (ix3 a b l) := by
  pointwise [stack8]
  fin_vals k with hk
  all_goals simp only [hk, Nat.reduceSub, Nat.reduceLT, ↓reduceDIte]
  all_goals exact at_bin h (Fin.ext hk.symm) _

/-- The stacked tables at bin `k` are table `k`. -/
theorem stack9_at (h : Fin 9 → FVec Ideal S9x9x128 .f32) (a b : Fin 9) (k : Fin 9) (l : Fin 128) :
    stack9 h (ix4 a b k l) = h k (ix3 a b l) := by
  pointwise [stack9]
  fin_vals k with hk
  all_goals simp only [hk, Nat.reduceSub, Nat.reduceLT, ↓reduceDIte]
  all_goals exact at_bin h (Fin.ext hk.symm) _

/-- The stacked tables at bin `k` are table `k`. -/
theorem stack6_at (h : Fin 6 → FVec Ideal S14x14x128 .f32) (a b : Fin 14) (k : Fin 6) (l : Fin 128) :
    stack6 h (ix4 a b k l) = h k (ix3 a b l) := by
  pointwise [stack6]
  fin_vals k with hk
  all_goals simp only [hk, Nat.reduceSub, Nat.reduceLT, ↓reduceDIte]
  all_goals exact at_bin h (Fin.ext hk.symm) _

/-- Four tables one after another, a cell's and its neighbours': which of the four, and which bin. -/
theorem quarter {α : Type*} {H n : ℕ} (hn : 0 < n) (v : Fin (H + 1) → Fin (H + 1) → Fin n → α) (a b : Fin H) (j : Fin (4 * n)) :
    (if h0 : (j : ℕ) < n then v ⟨a, by omega⟩ ⟨b, by omega⟩ ⟨j, h0⟩
      else if h1 : (j : ℕ) - n < n then v ⟨a, by omega⟩ ⟨1 + b, by omega⟩ ⟨(j : ℕ) - n, h1⟩
      else if h2 : (j : ℕ) - n - n < n then v ⟨1 + a, by omega⟩ ⟨b, by omega⟩ ⟨(j : ℕ) - n - n, h2⟩
      else v ⟨1 + a, by omega⟩ ⟨1 + b, by omega⟩ ⟨(j : ℕ) - n - n - n, by omega⟩)
      = v ⟨a + (j : ℕ) / n / 2, by have := Nat.div_lt_of_lt_mul (lt_of_lt_of_eq j.isLt (Nat.mul_comm 4 n)); omega⟩
        ⟨b + (j : ℕ) / n % 2, by omega⟩ ⟨(j : ℕ) % n, Nat.mod_lt _ hn⟩ := by
  have key : ∀ (q r : ℕ) (hr : r < n), (j : ℕ) = q * n + r → (j : ℕ) / n = q ∧ (j : ℕ) % n = r := fun q r hr h =>
    ⟨by rw [h, Nat.mul_comm, Nat.mul_add_div hn, Nat.div_eq_of_lt hr, Nat.add_zero],
     by rw [h, Nat.mul_comm, Nat.mul_add_mod, Nat.mod_eq_of_lt hr]⟩
  split_ifs with h0 h1 h2
  · obtain ⟨hq, hr⟩ := key 0 j h0 (by omega)
    simp only [hq, hr]
    rfl
  · obtain ⟨hq, hr⟩ := key 1 (j - n) h1 (by omega)
    simp only [hq, hr, Nat.add_comm 1]
    rfl
  · obtain ⟨hq, hr⟩ := key 2 (j - n - n) h2 (by omega)
    simp only [hq, hr, Nat.add_comm 1]
    rfl
  · obtain ⟨hq, hr⟩ := key 3 (j - n - n - n) (by omega) (by omega)
    simp only [hq, hr, Nat.add_comm 1]

/-- A block's value: which of its four cells, and which bin. -/
theorem quad8_at (v : FVec Ideal S7x7x8x128 .f32) (a b : Fin 6) (j : Fin 32) (l : Fin 128) :
    quad8 v (ix4 a b j l) = v (ix4 ⟨a + (j : ℕ) / 8 / 2, by omega⟩ ⟨b + (j : ℕ) / 8 % 2, by omega⟩ ⟨(j : ℕ) % 8, by omega⟩ l) := by
  pointwise [quad8]
  exact quarter (by norm_num) (fun y x k => v (ix4 y x k l)) a b j

/-- A block's value: which of its four cells, and which bin. -/
theorem quad9_at (v : FVec Ideal S9x9x9x128 .f32) (a b : Fin 8) (j : Fin 36) (l : Fin 128) :
    quad9 v (ix4 a b j l) = v (ix4 ⟨a + (j : ℕ) / 9 / 2, by omega⟩ ⟨b + (j : ℕ) / 9 % 2, by omega⟩ ⟨(j : ℕ) % 9, by omega⟩ l) := by
  pointwise [quad9]
  exact quarter (by norm_num) (fun y x k => v (ix4 y x k l)) a b j

/-- A block's value: which of its four cells, and which bin. -/
theorem quad6_at (v : FVec Ideal S14x14x6x128 .f32) (a b : Fin 13) (j : Fin 24) (l : Fin 128) :
    quad6 v (ix4 a b j l) = v (ix4 ⟨a + (j : ℕ) / 6 / 2, by omega⟩ ⟨b + (j : ℕ) / 6 % 2, by omega⟩ ⟨(j : ℕ) % 6, by omega⟩ l) := by
  pointwise [quad6]
  exact quarter (by norm_num) (fun y x k => v (ix4 y x k l)) a b j

end Cert.Hog

end
-- ==== Proof.Features.lean ====
/- The features of one image, as a function of its padded pixels. -/
module

public import proofs.«01_k».proof.Proof.Scalars

@[expose] public section

noncomputable section

namespace Cert.Hog

open Idealize.ShloMosaic

/-- The horizontal gradient at a pixel of an image with a border of one pixel. -/
def gradX (Z : Fin 30 → Fin 30 → EReal) (y x : Fin 28) : EReal :=
  grad (Z ⟨y, by omega⟩ ⟨x, by omega⟩) (Z ⟨1 + y, by omega⟩ ⟨x, by omega⟩) (Z ⟨2 + y, by omega⟩ ⟨x, by omega⟩)
    (Z ⟨y, by omega⟩ ⟨2 + x, by omega⟩) (Z ⟨1 + y, by omega⟩ ⟨2 + x, by omega⟩) (Z ⟨2 + y, by omega⟩ ⟨2 + x, by omega⟩)

/-- The vertical gradient at a pixel. -/
def gradY (Z : Fin 30 → Fin 30 → EReal) (y x : Fin 28) : EReal :=
  grad (Z ⟨y, by omega⟩ ⟨x, by omega⟩) (Z ⟨y, by omega⟩ ⟨1 + x, by omega⟩) (Z ⟨y, by omega⟩ ⟨2 + x, by omega⟩)
    (Z ⟨2 + y, by omega⟩ ⟨x, by omega⟩) (Z ⟨2 + y, by omega⟩ ⟨1 + x, by omega⟩) (Z ⟨2 + y, by omega⟩ ⟨2 + x, by omega⟩)

/-- The gradient's magnitude at a pixel. -/
def magAt (Z : Fin 30 → Fin 30 → EReal) (y x : Fin 28) : EReal := mag (gradX Z y x) (gradY Z y x)

/-- The gradient's direction at a pixel, in degrees between 0 and 180. -/
def angAt (Z : Fin 30 → Fin 30 → EReal) (y x : Fin 28) : EReal := degrees (Ideal.atan2 (gradY Z y x) (gradX Z y x))

/-- The histogram of a cell at bin `k`: cells `c` pixels wide, the last numbered `l`; bins `0 … m` of width `w`. -/
def hist (c l m : ℕ) (w i : ℝ) (Z : Fin 30 → Fin 30 → EReal) (cy cx k : ℕ) : EReal :=
  cell c l (fun y x => vote m (w : EReal) (i : EReal) (magAt Z y x) (angAt Z y x) k) cy cx

/-- The block at cell `(a, b)`: the histograms, `n` bins each, of the two by two cells from there, normalized. -/
def block (c l m n : ℕ) (w i : ℝ) (Z : Fin 30 → Fin 30 → EReal) (a b : ℕ) (j : Fin (4 * n)) : EReal :=
  normed (fun j : Fin (4 * n) => hist c l m w i Z (a + (j : ℕ) / n / 2) (b + (j : ℕ) / n % 2) ((j : ℕ) % n)) j

/-- The features: the pixels, then the blocks of the scales with eight, nine and six bins. -/
def features (Z : Fin 30 → Fin 30 → EReal) (f : Fin 8296) : EReal :=
  if h1 : (f : ℕ) < 784 then Z ⟨1 + (f : ℕ) / 28, by omega⟩ ⟨1 + (f : ℕ) % 28, by omega⟩
  else if h2 : (f : ℕ) - 784 < 1152 then
    block 4 6 7 8 (45 / 2) (2 / 45) Z (((f : ℕ) - 784) / 192) (((f : ℕ) - 784) / 32 % 6)
      ⟨((f : ℕ) - 784) % 32, Nat.mod_lt _ (by norm_num)⟩
  else if h3 : (f : ℕ) - 784 - 1152 < 2304 then
    block 3 8 8 9 20 (1 / 20) Z (((f : ℕ) - 784 - 1152) / 288) (((f : ℕ) - 784 - 1152) / 36 % 8)
      ⟨((f : ℕ) - 784 - 1152) % 36, Nat.mod_lt _ (by norm_num)⟩
  else
    block 2 13 5 6 30 (1 / 30) Z (((f : ℕ) - 784 - 1152 - 2304) / 312) (((f : ℕ) - 784 - 1152 - 2304) / 24 % 13)
      ⟨((f : ℕ) - 784 - 1152 - 2304) % 24, Nat.mod_lt _ (by norm_num)⟩

/-- Image `b` with a border of zeros one pixel wide. -/
def padded (x : Vec Ideal ⟨4, ![16384, 1, 28, 28]⟩ .f32) (b : Fin 16384) (r c : Fin 30) : EReal :=
  if h : (1 ≤ (r : ℕ) ∧ (r : ℕ) - 1 < 28) ∧ 1 ≤ (c : ℕ) ∧ (c : ℕ) - 1 < 28 then
    x (ix4 b 0 ⟨(r : ℕ) - 1, h.1.2⟩ ⟨(c : ℕ) - 1, h.2.2⟩) else 0

/-- The kernel's result: every image's features, less the means, times the inverses of the scales. -/
def result (x : Vec Ideal ⟨4, ![16384, 1, 28, 28]⟩ .f32) (g s : Vec Ideal ⟨1, ![8296]⟩ .f32) :
    Vec Ideal ⟨2, ![16384, 8296]⟩ .f32 :=
  fun j => (features (padded x (j 0)) (j 1) - g (ix1 (j 1))) * Ideal.div 1 (s (ix1 (j 1)))

end Cert.Hog

end
-- ==== Proof.KernelRead.lean ====
/- The kernel body's output block, read at one entry: the features of the entry's image, shifted and scaled. -/
module

public import proofs.«01_k».proof.Proof.KernelParts
public import proofs.«01_k».proof.Proof.Features

@[expose] public section

set_option maxRecDepth 16384

noncomputable section

namespace Cert.Hog

open Idealize.ShloMosaic
open Cert.KernelIdeal Cert.KernelIdeal.Gen

/-- Image `l` of a block of 128 padded images. -/
def lane (x0 : Vec Ideal S30x30x128 .f32) (l : Fin 128) (a b : Fin 30) : EReal := x0 (ix3 a b l)

/-! ## The named constants -/

/-- The name of the inverse width of eight bins denotes 2/45. -/
theorem named8 (w : BitVec 32) : Named.named (F := Ideal) (φ := .f32) κ "inv_bin8" w = ((2 / 45 : ℝ) : EReal) := rfl

/-- The name of the inverse width of nine bins denotes 1/20. -/
theorem named9 (w : BitVec 32) : Named.named (F := Ideal) (φ := .f32) κ "inv_bin9" w = ((1 / 20 : ℝ) : EReal) := rfl

/-- The name of the inverse width of six bins denotes 1/30. -/
theorem named6 (w : BitVec 32) : Named.named (F := Ideal) (φ := .f32) κ "inv_bin6" w = ((1 / 30 : ℝ) : EReal) := rfl

/-! ## The pixels -/

/-- The remainder's sign test, written with words, is that the remainder is negative. -/
theorem sign_test (r a b : EReal) :
    Scalar.select (IntOp.andi (IntOp.xori (BitVec.ofBool (decide (r < 0)))
        (BitVec.ofBool (decide (Ideal.ofBits .f32 0x43340000#32 < 0)))) (BitVec.ofBool (decide (r ≠ 0)))) a b
      = if r < 0 then a else b := by
  rw [decide_eq_false ofBits_180_nonneg]
  by_cases h : r < 0
  · rw [if_pos h, decide_eq_true h, decide_eq_true h.ne]; rfl
  · rw [if_neg h, decide_eq_false h]
    by_cases h' : r ≠ 0
    · rw [decide_eq_true h']; rfl
    · rw [decide_eq_false h']; rfl

/-- The kernel's horizontal gradient. -/
theorem pay3_at (x0 : Vec Ideal S30x30x128 .f32) (y x : Fin 28) (l : Fin 128) :
    k0_pay3 x0 (ix3 y x l) = gradX (lane x0 l) y x := by
  unfold gradX grad lane
  pointwise [k0_pay3, k0_pay2]

/-- The kernel's vertical gradient. -/
theorem pay4_at (x0 : Vec Ideal S30x30x128 .f32) (y x : Fin 28) (l : Fin 128) :
    k0_pay4 x0 (ix3 y x l) = gradY (lane x0 l) y x := by
  unfold gradY grad lane
  pointwise [k0_pay4, k0_pay2]

/-- The kernel's gradient magnitude. -/
theorem pay5_at (x0 : Vec Ideal S30x30x128 .f32) (y x : Fin 28) (l : Fin 128) :
    k0_pay5 x0 (ix3 y x l) = magAt (lane x0 l) y x := by
  unfold magAt mag eps
  rw [← pay3_at, ← pay4_at]
  pointwise [k0_pay5]

/-- The kernel's gradient direction. -/
theorem pay7_at (x0 : Vec Ideal S30x30x128 .f32) (y x : Fin 28) (l : Fin 128) :
    k0_pay7 (k0_pay6 x0) (ix3 y x l) = angAt (lane x0 l) y x := by
  unfold angAt degrees
  rw [← pay3_at, ← pay4_at]
  pointwise [k0_pay7, k0_pay6]
  exact sign_test _ _ _

/-- The kernel's bin among eight. -/
theorem pay9_at (v46 : FVec Ideal S28x28x128 .f32) (i : S28x28x128.Idx) :
    k0_pay9 v46 i = ((bin 7 (k0_pay7 v46 i * ((2 / 45 : ℝ) : EReal)) : ℝ) : EReal) := by
  idx_vars i
  rw [← clip_floor]
  pointwise [k0_pay9]
  rw [named8]
  exact congrArg (min · _) (ofBits_word 7)

/-- The kernel's bin among nine. -/
theorem pay26_at (v60 : FVec Ideal S28x28x128 .f32) (i : S28x28x128.Idx) :
    k0_pay26 (Scalar.ofBits .f32 0x41000000#32) (k0_pay25 v60) i = ((bin 8 (v60 i * ((1 / 20 : ℝ) : EReal)) : ℝ) : EReal) := by
  idx_vars i
  rw [← clip_floor]
  pointwise [k0_pay26, k0_pay25]
  rw [named9]
  exact congrArg (min · _) (ofBits_word 8)

/-- The kernel's bin among six. -/
theorem pay55_at (v60 : FVec Ideal S28x28x128 .f32) (i : S28x28x128.Idx) :
    k0_pay55 v60 i = ((bin 5 (v60 i * ((1 / 30 : ℝ) : EReal)) : ℝ) : EReal) := by
  idx_vars i
  rw [← clip_floor]
  pointwise [k0_pay55]
  rw [named6]
  exact congrArg (min · _) (ofBits_word 5)

/-- The weight a pixel leaves to its own bin among eight. -/
theorem pay11_at (v41 v46 : FVec Ideal S28x28x128 .f32) (i : S28x28x128.Idx) :
    k0_pay11 v41 v46 i = v41 i * (1 - (k0_pay7 v46 i - k0_pay9 v46 i * ((45 / 2 : ℝ) : EReal)) * ((2 / 45 : ℝ) : EReal)) := by
  idx_vars i
  rw [← ofBits_w8, ← named8 0x3D360B61#32]
  pointwise [k0_pay11, k0_pay10]

/-- The weight a pixel gives to the next bin among eight. -/
theorem pay12_at (v41 v46 : FVec Ideal S28x28x128 .f32) (i : S28x28x128.Idx) :
    k0_pay12 v41 v46 i = v41 i * ((k0_pay7 v46 i - k0_pay9 v46 i * ((45 / 2 : ℝ) : EReal)) * ((2 / 45 : ℝ) : EReal)) := by
  idx_vars i
  rw [← ofBits_w8, ← named8 0x3D360B61#32]
  pointwise [k0_pay12, k0_pay10]

/-- The weight a pixel leaves to its own bin among nine. -/
theorem pay28_at (v41 v60 v220 : FVec Ideal S28x28x128 .f32) (i : S28x28x128.Idx) :
    k0_pay28 v41 v60 (Scalar.ofBits .f32 0x41000000#32) v220 i = v41 i * (1 - (v60 i - k0_pay26 (Scalar.ofBits .f32 0x41000000#32) v220 i * ((20 : ℝ) : EReal)) * ((1 / 20 : ℝ) : EReal)) := by
  idx_vars i
  rw [← ofBits_w9, ← named9 0x3D4CCCCD#32]
  pointwise [k0_pay28, k0_pay27]

/-- The weight a pixel gives to the next bin among nine. -/
theorem pay29_at (v41 v60 v220 : FVec Ideal S28x28x128 .f32) (i : S28x28x128.Idx) :
    k0_pay29 v41 v60 (Scalar.ofBits .f32 0x41000000#32) v220 i = v41 i * ((v60 i - k0_pay26 (Scalar.ofBits .f32 0x41000000#32) v220 i * ((20 : ℝ) : EReal)) * ((1 / 20 : ℝ) : EReal)) := by
  idx_vars i
  rw [← ofBits_w9, ← named9 0x3D4CCCCD#32]
  pointwise [k0_pay29, k0_pay27]

/-- The weight a pixel leaves to its own bin among six. -/
theorem pay57_at (v41 v60 : FVec Ideal S28x28x128 .f32) (i : S28x28x128.Idx) :
    k0_pay57 v41 v60 i = v41 i * (1 - (v60 i - k0_pay55 v60 i * ((30 : ℝ) : EReal)) * ((1 / 30 : ℝ) : EReal)) := by
  idx_vars i
  rw [← ofBits_w6, ← named6 0x3D088889#32]
  pointwise [k0_pay57, k0_pay56]

/-- The weight a pixel gives to the next bin among six. -/
theorem pay58_at (v41 v60 : FVec Ideal S28x28x128 .f32) (i : S28x28x128.Idx) :
    k0_pay58 v41 v60 i = v41 i * ((v60 i - k0_pay55 v60 i * ((30 : ℝ) : EReal)) * ((1 / 30 : ℝ) : EReal)) := by
  idx_vars i
  rw [← ofBits_w6, ← named6 0x3D088889#32]
  pointwise [k0_pay58, k0_pay56]

/-! ## The votes -/

/-- The bin before `k`, around the circle. -/
theorem prev_bin {m b k : ℕ} (hm : m ≤ 8) (hb : b ≤ m) (hk : k ≤ m) : b = (k + m) % (m + 1) ↔ (b + 1) % (m + 1) = k := by
  interval_cases m <;> omega

/-- The kernel's votes for one bin are the votes. -/
theorem picked_vote {m : ℕ} (hm : m ≤ 8) (w i : ℝ) (b0 w0 w1 M A : FVec Ideal S28x28x128 .f32)
    (hb : ∀ j, b0 j = ((bin m (A j * (i : EReal)) : ℝ) : EReal))
    (h0 : ∀ j, w0 j = M j * (1 - (A j - b0 j * (w : EReal)) * (i : EReal)))
    (h1 : ∀ j, w1 j = M j * ((A j - b0 j * (w : EReal)) * (i : EReal)))
    (k : ℕ) (hk : k ≤ m) (y x : Fin 28) (l : Fin 128) :
    picked (word ⟨k, by omega⟩) (word ⟨(k + m) % (m + 1), by have := Nat.mod_lt (k + m) (Nat.zero_lt_succ m); simp only [Nat.succ_eq_add_one] at this; omega⟩) b0 w0 w1 (ix3 y x l)
      = vote m (w : EReal) (i : EReal) (M (ix3 y x l)) (A (ix3 y x l)) k := by
  rw [picked_at, ofBits_word, ofBits_word, h0, h1, hb]
  unfold vote
  simp only [EReal.coe_eq_coe_iff, Nat.cast_inj, prev_bin hm (bin_le m _) hk]

/-! ## The blocks -/

/-- The clip at 0.2, at one entry. -/
theorem clipped_at {s : Shape} (v : FVec Ideal s .f32) (i : s.Idx) :
    clipped v i = min (v i) (Ideal.ofBits .f32 0x3E4CCCCD#32) := rfl

/-- The pixels' votes for bin `k` of eight. -/
def votes8 (b0 w0 w1 : FVec Ideal S28x28x128 .f32) (k : Fin 8) : FVec Ideal S28x28x128 .f32 :=
  picked (word ⟨k, by omega⟩) (word ⟨(k + 7) % 8, by omega⟩) b0 w0 w1

/-- The pixels' votes for bin `k` of nine. -/
def votes9 (b0 w0 w1 : FVec Ideal S28x28x128 .f32) (k : Fin 9) : FVec Ideal S28x28x128 .f32 :=
  picked (word ⟨k, by omega⟩) (word ⟨(k + 8) % 9, by omega⟩) b0 w0 w1

/-- The pixels' votes for bin `k` of six. -/
def votes6 (b0 w0 w1 : FVec Ideal S28x28x128 .f32) (k : Fin 6) : FVec Ideal S28x28x128 .f32 :=
  picked (word ⟨k, by omega⟩) (word ⟨(k + 5) % 6, by omega⟩) b0 w0 w1

/-- The blocks of eight bins, spelt with the repeated steps. -/
theorem pay24_eq (b0 w0 w1 : FVec Ideal S28x28x128 .f32) :
    k0_pay24 b0 w0 w1 (pool4 (votes8 b0 w0 w1 0)) (k0_pay15 b0 w0 w1) (k0_pay16 b0 w0 w1)
      (k0_pay17 b0 w0 w1) (k0_pay19 b0 w0 w1 (k0_pay18 (F := Ideal))) (k0_pay20 b0 w0 w1) (k0_pay21 b0 w0 w1) (k0_pay22 b0)
      (k0_pay23 (F := Ideal))
      = shapeCast S1152x128 (once8 (clipped (once8 (quad8 (stack8 fun k => pool4 (votes8 b0 w0 w1 k))))))
          shapeCasts_S6x6x32x128_S1152x128 := rfl

/-- The nine-bin cells' blocks before their normalization, spelt with the repeated steps. -/
theorem pay52_eq (b0 w0 w1 : FVec Ideal S28x28x128 .f32) :
    k0_pay52 b0 w0 w1 (cols3 (rows3 (votes9 b0 w0 w1 0))) (cols3 (rows3 (votes9 b0 w0 w1 1)))
      (k0_pay36 (k0_pay34 b0 w0 w1) (k0_pay35 b0 w0 w1)) (k0_pay41 (k0_pay38 b0 w0 w1) (k0_pay39 b0 w0 w1) k0_pay40)
      (k0_pay42 b0 w0 w1) (k0_pay46 w1 (k0_pay43 b0 w0) (k0_pay44 b0) (k0_pay45 (F := Ideal)))
      (k0_pay49 (k0_pay47 b0 w0 w1) (k0_pay48 b0 w0 w1)) (k0_pay50 b0 w0 w1) (k0_pay51 (F := Ideal))
      = quad9 (stack9 fun k => cols3 (rows3 (votes9 b0 w0 w1 k))) := rfl

/-- The nine-bin blocks' normalization. -/
theorem pay54_eq (b0 w0 w1 : FVec Ideal S28x28x128 .f32) (h0 h1 h2 h3 h4 h5 h6 h7 : FVec Ideal S9x9x128 .f32)
    (v496 : FVec Ideal S28x28x128 .f32) :
    k0_pay54 (k0_pay52 b0 w0 w1 h0 h1 h2 h3 h4 h5 h6 h7 v496) (k0_pay53 b0 w0 w1 h0 h1 h2 h3 h4 h5 h6 h7 v496)
      = shapeCast S2304x128 (once9 (clipped (once9 (k0_pay52 b0 w0 w1 h0 h1 h2 h3 h4 h5 h6 h7 v496))))
          shapeCasts_S8x8x36x128_S2304x128 := rfl

/-- The six-bin blocks after their first normalization, spelt with the repeated steps. -/
theorem pay65_eq (b0 w0 w1 : FVec Ideal S28x28x128 .f32) :
    k0_pay65 b0 w0 w1 (pool2 (votes6 b0 w0 w1 0)) (k0_pay61 b0 w0 w1) (k0_pay62 b0 w0 w1) (k0_pay63 b0 w0 w1)
      (k0_pay64 (F := Ideal)) = once6 (quad6 (stack6 fun k => pool2 (votes6 b0 w0 w1 k))) := rfl

/-- The body's result, of the four groups of features, the shift and the scale. -/
def finish (p0 : FVec Ideal S784x128 .f32) (p1 : FVec Ideal S1152x128 .f32) (p2 : FVec Ideal S2304x128 .f32)
    (p3 : FVec Ideal S4056x128 .f32) (g s : Vec Ideal S8296x1 .f32) : FVec Ideal S128x8296 .f32 :=
  transpose S128x8296 [1, 0]
    (mulf
      (subf (concatenate S8296x128 0 [⟨S784x128, p0⟩, ⟨S1152x128, p1⟩, ⟨S2304x128, p2⟩, ⟨S4056x128, p3⟩]
          concatenates_S784x128_S1152x128_S2304x128_S4056x128_S8296x128_d0)
        (broadcastTo S8296x128 (shapeCast S8296x1 g shapeCasts_S8296x1_S8296x1) broadcasts_S8296x1_S8296x128))
      (broadcastTo S8296x128 (shapeCast S8296x1 s shapeCasts_S8296x1_S8296x1) broadcasts_S8296x1_S8296x128))
    transposes_S8296x128_p1_0_S128x8296

/-- The body's last step, spelt with the repeated steps. -/
theorem pay1_eq (p0 : FVec Ideal S784x128 .f32) (p1 : FVec Ideal S1152x128 .f32) (p2 : FVec Ideal S2304x128 .f32)
    (v676 : FVec Ideal S13x13x24x128 .f32) (g s : Vec Ideal S8296x1 .f32) :
    k0_pay1 p0 p1 p2 v676 (k0_pay66 (F := Ideal)) g s
      = finish p0 p1 p2 (shapeCast S4056x128 (once6 (clipped v676)) shapeCasts_S13x13x24x128_S4056x128) g s := rfl

/-- The body's result at one entry: the group the feature lies in, shifted and scaled. -/
theorem finish_at (p0 : FVec Ideal S784x128 .f32) (p1 : FVec Ideal S1152x128 .f32) (p2 : FVec Ideal S2304x128 .f32)
    (p3 : FVec Ideal S4056x128 .f32) (g s : Vec Ideal S8296x1 .f32) (l : Fin 128) (f : Fin 8296) :
    finish p0 p1 p2 p3 g s (ix2 l f)
      = ((if h : (f : ℕ) < 784 then p0 (ix2 ⟨f, by omega⟩ l)
          else if h' : (f : ℕ) - 784 < 1152 then p1 (ix2 ⟨(f : ℕ) - 784, by omega⟩ l)
          else if h'' : (f : ℕ) - 784 - 1152 < 2304 then p2 (ix2 ⟨(f : ℕ) - 784 - 1152, by omega⟩ l)
          else p3 (ix2 ⟨(f : ℕ) - 784 - 1152 - 2304, by omega⟩ l)) - g (ix2 f 0)) * s (ix2 f 0) := by
  pointwise [finish]

/-- The pixels among the features of one image. -/
theorem part0_at (x0 : Vec Ideal S30x30x128 .f32) (f : Fin 784) (l : Fin 128) :
    k0_pay8 (k0_pay2 x0) (ix2 f l) = lane x0 l ⟨1 + (f : ℕ) / 28, by omega⟩ ⟨1 + (f : ℕ) % 28, by omega⟩ := by
  unfold lane
  pointwise [k0_pay8, k0_pay2]

/-- The kernel's votes for bin `k` of eight. -/
theorem votes8_at (x0 : Vec Ideal S30x30x128 .f32) (k : Fin 8) (y x : Fin 28) (l : Fin 128) :
    votes8 (k0_pay9 (k0_pay6 x0)) (k0_pay11 (k0_pay5 x0) (k0_pay6 x0)) (k0_pay12 (k0_pay5 x0) (k0_pay6 x0)) k (ix3 y x l)
      = vote 7 ((45 / 2 : ℝ) : EReal) ((2 / 45 : ℝ) : EReal) (magAt (lane x0 l) y x) (angAt (lane x0 l) y x) k := by
  rw [← pay5_at, ← pay7_at]
  exact picked_vote (m := 7) (by norm_num) (45 / 2) (2 / 45) _ _ _ (k0_pay5 x0) (k0_pay7 (k0_pay6 x0))
    (pay9_at _) (pay11_at _ _) (pay12_at _ _) k (by omega) y x l

/-- The features of eight bins of one image. -/
theorem part8_at (x0 : Vec Ideal S30x30x128 .f32) (b0 w0 w1 : FVec Ideal S28x28x128 .f32) (l : Fin 128)
    (hv : ∀ (k : Fin 8) (y x : Fin 28), votes8 b0 w0 w1 k (ix3 y x l)
      = vote 7 ((45 / 2 : ℝ) : EReal) ((2 / 45 : ℝ) : EReal) (magAt (lane x0 l) y x) (angAt (lane x0 l) y x) k) (f : Fin 1152) :
    shapeCast S1152x128 (once8 (clipped (once8 (quad8 (stack8 fun k => pool4 (votes8 b0 w0 w1 k))))))
        shapeCasts_S6x6x32x128_S1152x128 (ix2 f l)
      = block 4 6 7 8 (45 / 2) (2 / 45) (lane x0 l) ((f : ℕ) / 192) ((f : ℕ) / 32 % 6)
          ⟨(f : ℕ) % 32, Nat.mod_lt _ (by norm_num)⟩ := by
  pointwise
  rw [once8_at]
  simp only [clipped_at, once8_at, quad8_at, stack8_at, pool4_at, hv]
  rfl

/-- The kernel's votes for bin `k` of nine. -/
theorem votes9_at (x0 : Vec Ideal S30x30x128 .f32) (k : Fin 9) (y x : Fin 28) (l : Fin 128) :
    votes9 (k0_pay26 (Scalar.ofBits .f32 0x41000000#32) (k0_pay25 (k0_pay7 (k0_pay6 x0)))) (k0_pay28 (k0_pay5 x0) (k0_pay7 (k0_pay6 x0)) (Scalar.ofBits .f32 0x41000000#32) (k0_pay25 (k0_pay7 (k0_pay6 x0)))) (k0_pay29 (k0_pay5 x0) (k0_pay7 (k0_pay6 x0)) (Scalar.ofBits .f32 0x41000000#32) (k0_pay25 (k0_pay7 (k0_pay6 x0)))) k (ix3 y x l)
      = vote 8 ((20 : ℝ) : EReal) ((1 / 20 : ℝ) : EReal) (magAt (lane x0 l) y x) (angAt (lane x0 l) y x) k := by
  rw [← pay5_at, ← pay7_at]
  exact picked_vote (m := 8) (by norm_num) (20) (1 / 20) _ _ _ (k0_pay5 x0) (k0_pay7 (k0_pay6 x0))
    (pay26_at _) (pay28_at _ _ _) (pay29_at _ _ _) k (by omega) y x l

/-- The features of nine bins of one image. -/
theorem part9_at (x0 : Vec Ideal S30x30x128 .f32) (b0 w0 w1 : FVec Ideal S28x28x128 .f32) (l : Fin 128)
    (hv : ∀ (k : Fin 9) (y x : Fin 28), votes9 b0 w0 w1 k (ix3 y x l)
      = vote 8 ((20 : ℝ) : EReal) ((1 / 20 : ℝ) : EReal) (magAt (lane x0 l) y x) (angAt (lane x0 l) y x) k) (f : Fin 2304) :
    shapeCast S2304x128 (once9 (clipped (once9 (quad9 (stack9 fun k => cols3 (rows3 (votes9 b0 w0 w1 k)))))))
        shapeCasts_S8x8x36x128_S2304x128 (ix2 f l)
      = block 3 8 8 9 (20) (1 / 20) (lane x0 l) ((f : ℕ) / 288) ((f : ℕ) / 36 % 8)
          ⟨(f : ℕ) % 36, Nat.mod_lt _ (by norm_num)⟩ := by
  pointwise
  rw [once9_at]
  simp only [clipped_at, once9_at, quad9_at, stack9_at, pool3_at, hv]
  rfl

/-- The kernel's votes for bin `k` of six. -/
theorem votes6_at (x0 : Vec Ideal S30x30x128 .f32) (k : Fin 6) (y x : Fin 28) (l : Fin 128) :
    votes6 (k0_pay55 (k0_pay7 (k0_pay6 x0))) (k0_pay57 (k0_pay5 x0) (k0_pay7 (k0_pay6 x0))) (k0_pay58 (k0_pay5 x0) (k0_pay7 (k0_pay6 x0))) k (ix3 y x l)
      = vote 5 ((30 : ℝ) : EReal) ((1 / 30 : ℝ) : EReal) (magAt (lane x0 l) y x) (angAt (lane x0 l) y x) k := by
  rw [← pay5_at, ← pay7_at]
  exact picked_vote (m := 5) (by norm_num) (30) (1 / 30) _ _ _ (k0_pay5 x0) (k0_pay7 (k0_pay6 x0))
    (pay55_at _) (pay57_at _ _) (pay58_at _ _) k (by omega) y x l

/-- The features of six bins of one image. -/
theorem part6_at (x0 : Vec Ideal S30x30x128 .f32) (b0 w0 w1 : FVec Ideal S28x28x128 .f32) (l : Fin 128)
    (hv : ∀ (k : Fin 6) (y x : Fin 28), votes6 b0 w0 w1 k (ix3 y x l)
      = vote 5 ((30 : ℝ) : EReal) ((1 / 30 : ℝ) : EReal) (magAt (lane x0 l) y x) (angAt (lane x0 l) y x) k) (f : Fin 4056) :
    shapeCast S4056x128 (once6 (clipped (once6 (quad6 (stack6 fun k => pool2 (votes6 b0 w0 w1 k))))))
        shapeCasts_S13x13x24x128_S4056x128 (ix2 f l)
      = block 2 13 5 6 (30) (1 / 30) (lane x0 l) ((f : ℕ) / 312) ((f : ℕ) / 24 % 13)
          ⟨(f : ℕ) % 24, Nat.mod_lt _ (by norm_num)⟩ := by
  pointwise
  rw [once6_at]
  simp only [clipped_at, once6_at, quad6_at, stack6_at, pool2_at, hv]
  rfl

/-- The block the body stores, at one entry: the image's feature less its shift, times its scale. -/
theorem stored_at (x0 : Vec Ideal S30x30x128 .f32) (g s : Vec Ideal S8296x1 .f32) (l : Fin 128) (f : Fin 8296) :
    finish (k0_pay8 (k0_pay2 x0))
      (shapeCast S1152x128 (once8 (clipped (once8 (quad8 (stack8 fun k => pool4 (votes8 (k0_pay9 (k0_pay6 x0))
        (k0_pay11 (k0_pay5 x0) (k0_pay6 x0)) (k0_pay12 (k0_pay5 x0) (k0_pay6 x0)) k)))))) shapeCasts_S6x6x32x128_S1152x128)
      (shapeCast S2304x128 (once9 (clipped (once9 (quad9 (stack9 fun k => cols3 (rows3 (votes9
        (k0_pay26 (Scalar.ofBits .f32 0x41000000#32) (k0_pay25 (k0_pay7 (k0_pay6 x0))))
        (k0_pay28 (k0_pay5 x0) (k0_pay7 (k0_pay6 x0)) (Scalar.ofBits .f32 0x41000000#32) (k0_pay25 (k0_pay7 (k0_pay6 x0))))
        (k0_pay29 (k0_pay5 x0) (k0_pay7 (k0_pay6 x0)) (Scalar.ofBits .f32 0x41000000#32) (k0_pay25 (k0_pay7 (k0_pay6 x0)))) k))))))) shapeCasts_S8x8x36x128_S2304x128)
      (shapeCast S4056x128 (once6 (clipped (once6 (quad6 (stack6 fun k => pool2 (votes6 (k0_pay55 (k0_pay7 (k0_pay6 x0)))
        (k0_pay57 (k0_pay5 x0) (k0_pay7 (k0_pay6 x0))) (k0_pay58 (k0_pay5 x0) (k0_pay7 (k0_pay6 x0))) k)))))) shapeCasts_S13x13x24x128_S4056x128)
      g s (ix2 l f)
      = (features (lane x0 l) f - g (ix2 f 0)) * s (ix2 f 0) := by
  rw [finish_at]
  simp only [part0_at, part8_at x0 _ _ _ l fun k y x => votes8_at x0 k y x l,
    part9_at x0 _ _ _ l fun k y x => votes9_at x0 k y x l, part6_at x0 _ _ _ l fun k y x => votes6_at x0 k y x l]
  rfl

end Cert.Hog

end
-- ==== Proof.KernelValue.lean ====
/- The kernel's result array after its run: the features of every image, shifted and scaled. -/
module

public import proofs.«01_k».proof.Proof.KernelRead
public import proofs.«01_k».proof.Proof.Gen.KernelIdeal.Frame
public import Idealize.ShloMosaic.Lib.Pipeline.ValueKit
public import Idealize.ShloMosaic.Lib.Claim
public import Idealize.ShloMosaic.Lib.Pointwise

@[expose] public section

set_option maxRecDepth 16384

noncomputable section

namespace Cert.Hog

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- Every window's block index. -/
theorem idx : ∀ t : Fin cfg0.N, win0_0.index t = ![0, 0, (t : ℕ)] ∧ win0_1.index t = ![0, 0] ∧ win0_2.index t = ![0, 0]
    ∧ win0_3.index t = ![(t : ℕ), 0] :=
  (by decide +kernel : ∀ t : Fin grid0.N, _)

/-- The eight-bin cells' first bin. -/
theorem first8 (A M : FVec Ideal S28x28x128 .f32) :
    k0_pay14 (k0_pay13 M A) = pool4 (votes8 (k0_pay9 A) (k0_pay11 M A) (k0_pay12 M A) 0) := rfl

/-- The six-bin cells' first bin. -/
theorem first6 (A M : FVec Ideal S28x28x128 .f32) :
    k0_pay60 (k0_pay59 M A) = pool2 (votes6 (k0_pay55 A) (k0_pay57 M A) (k0_pay58 M A) 0) := rfl

/-- The nine-bin cells' first bin. -/
theorem first9 (A M : FVec Ideal S28x28x128 .f32) (e : Ideal .f32) (v : FVec Ideal S28x28x128 .f32) :
    k0_pay30 M A e v = cols3 (rows3 (votes9 (k0_pay26 e v) (k0_pay28 M A e v) (k0_pay29 M A e v) 0)) := rfl

/-- The nine-bin cells' second bin. -/
theorem second9 (e : Ideal .f32) (v w0 w1 : FVec Ideal S28x28x128 .f32) :
    k0_pay32 (k0_pay26 e v) w0 w1 (k0_pay31 e v) = cols3 (rows3 (votes9 (k0_pay26 e v) w0 w1 1)) := rfl

/-- The block the body leaves, with its steps named. -/
theorem out_eq (x0 : Vec Ideal S30x30x128 .f32) (x1 x2 : Vec Ideal S8296x1 .f32) (l : Fin 128) (f : Fin 8296) :
    out0_3 x0 x1 x2 (ix2 l f) = (features (lane x0 l) f - x1 (ix2 f 0)) * x2 (ix2 f 0) := by
  refine Eq.trans ?_ (stored_at x0 x1 x2 l f)
  unfold_out out0_3
  frame_out
  rw [first8, first6, first9, second9, pay1_eq, pay24_eq, pay54_eq, pay52_eq, pay65_eq]

/-- The first operand at the region's entry: every image with its border, the image's number last. -/
theorem entry_images (c : Dev nD) (r s : Fin 30) (b : Fin 16384) :
    V m c main_v2 (ix3 r s b) = padded (m ((c : Thread nD τ).loc main_arg0)) b r s := by
  simp only [V, hostOps0, hostOps0_1, hostOps0_2, List.flatten_cons, List.flatten_nil, List.append_nil, List.cons_append,
    List.nil_append]
  entry_read
  simp only [StableHlo.TRef.toBuf, StableHlo.TRef.ofBuf, cast_eq]
  pointwise [padded]
  rw [show (FloatOps.sitofp FTy.f32 0#32 : Ideal .f32) = 0 from sitofp_zero]

/-- The second operand at the region's entry: the means. -/
theorem entry_mean (c : Dev nD) (f : Fin 8296) :
    V m c main_v3 (ix2 f 0) = m ((c : Thread nD τ).loc main_arg1) (ix1 f) := by
  simp only [V, hostOps0, hostOps0_1, hostOps0_2, List.flatten_cons, List.flatten_nil, List.append_nil, List.cons_append,
    List.nil_append]
  entry_read
  pointwise

/-- The third operand at the region's entry: the inverses of the scales. -/
theorem entry_scale (c : Dev nD) (f : Fin 8296) :
    V m c main_v6 (ix2 f 0) = Ideal.div 1 (m ((c : Thread nD τ).loc main_arg2) (ix1 f)) := by
  simp only [V, hostOps0, hostOps0_1, hostOps0_2, List.flatten_cons, List.flatten_nil, List.append_nil, List.cons_append,
    List.nil_append]
  entry_read
  pointwise

/-- The result array after the run. -/
theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  rw [out_eq]
  have hi := idx t
  have ht : (t : ℕ) < 128 := lt_of_lt_of_eq t.isLt (by decide)
  have hb : ∀ r s : Fin 30, iblk m c 0 t (ix3 r s y0) = V m c main_v2 (ix3 r s ⟨(t : ℕ) * 128 + y0, by omega⟩) := by
    intro r s
    blk_ext [iblk, idx t]
  have hm : iblk m c 1 t (ix2 y1 0) = V m c main_v3 (ix2 y1 0) := by blk_ext [iblk, idx t]
  have hs : iblk m c 2 t (ix2 y1 0) = V m c main_v6 (ix2 y1 0) := by blk_ext [iblk, idx t]
  have hz : lane (iblk m c 0 t) y0 = padded (m ((c : Thread nD τ).loc main_arg0)) ⟨(t : ℕ) * 128 + y0, by omega⟩ := by
    funext r s
    exact (hb r s).trans (entry_images m c r s _)
  rw [hz, hm, hs, entry_mean, entry_scale]
  have he : ((cfg0.win 3).blk t).view.emb (ix2 y0 y1) = ix2 ⟨(t : ℕ) * 128 + y0, by omega⟩ y1 := by blk_ext [idx t]
  exact (congrArg (result _ _ _) he).symm

/-- The kernel's run: the result array ends at the features, shifted and scaled, and the arguments end unchanged. -/
theorem kernel_run : θ_run defs (onTc (τ := τ) (main (F := Ideal))) ⟨m, fun _ => 0, ρ⟩ (fun r => ∀ c : Dev nD,
      r.2.mem ((c.tc : Thread nD τ).loc main_v7)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.2.out_eq c 3).trans (final m c), h.1 c⟩) (θ_run_and (unchanged m ρ) (run_main m ρ))

end Cert.Hog

end
-- ==== Proof.Words.lean ====
/- The reference's words: cell numbers, bin numbers and the entries of its tables. -/
module

public import proofs.«01_k».proof.Proof.Scalars
public import Idealize.ShloMosaic.Lib.Routing.OpsPair
public import Idealize.ShloMosaic.Lib.Routing.Words

@[expose] public section

set_option maxRecDepth 16384

noncomputable section

namespace Cert.Hog

open Idealize.ShloMosaic

/-- A small number's word, as a number. -/
theorem sitofp_nat {k : ℕ} (h : k < 2 ^ 31) :
    (FloatOps.sitofp (F := Ideal) FTy.f32 (BitVec.ofNat 32 k) : Ideal .f32) = ((k : ℝ) : EReal) := by
  show (((BitVec.ofNat 32 k).toInt : ℝ) : EReal) = _
  have : (BitVec.ofNat 32 k).toInt = (k : ℤ) := by
    rw [BitVec.toInt_eq_toNat_cond, BitVec.toNat_ofNat]
    omega
  rw [this]
  simp

/-- The bin's word: the angle over the width, rounded down and clipped to `0 … m`. -/
theorem bin_word {m : ℕ} (hm : m < 2 ^ 31) {w i : ℝ} (hw : w ≠ 0) (hi : 1 / w = i) {W A : EReal} (hW : W = (w : EReal)) :
    (FloatOps.fptosi (F := Ideal) (φ := .f32) 32 (min (FloatOps.sitofp (F := Ideal) FTy.f32 (BitVec.ofNat 32 m) : EReal)
      (max (FloatOps.sitofp (F := Ideal) FTy.f32 0#32 : EReal) (Ideal.liftRound Int.floor (Ideal.div A W)))) : BitVec 32)
      = BitVec.ofNat 32 (bin m (A * (i : EReal))) := by
  rw [sitofp_nat hm, sitofp_zero, hW, Ideal.div_coe hw, hi]
  have h := clip_floor m (A * (i : EReal))
  refine (congrArg (Ideal.fptosi 32) h).trans (fptosi_nat ?_)
  exact lt_of_le_of_lt (bin_le m _) hm

/-- The cell number's word: the pixel's number over the cell's width, rounded down (towards minus infinity) and clipped. -/
def cellWord (l c v : BitVec 32) : BitVec 32 :=
  IntOp.minsi l (IntOp.maxsi 0#32 (Scalar.select
    (IntOp.andi
      (IntOp.cmpi CmpIPredicate.ne (if v = 0 then (0 : BitVec 32) else if v.msb = true then -1 else 1)
        (if c = 0 then (0 : BitVec 32) else if c.msb = true then -1 else 1))
      (IntOp.cmpi CmpIPredicate.ne (IntOp.remsi ArithUnit.host v c) 0#32))
    (IntOp.subi (IntOp.divsi ArithUnit.host v c) 1#32) (IntOp.divsi ArithUnit.host v c)))

/-- Cells of four: the cell number. -/
theorem cellWord_four : ∀ y : Fin 28, cellWord 6#32 4#32 (BitVec.ofNat 32 y) = BitVec.ofNat 32 (min ((y : ℕ) / 4) (7 - 1)) := by
  decide +kernel

/-- Cells of three: the cell number. -/
theorem cellWord_three : ∀ y : Fin 28, cellWord 8#32 3#32 (BitVec.ofNat 32 y) = BitVec.ofNat 32 (min ((y : ℕ) / 3) (9 - 1)) := by
  decide +kernel

/-- Cells of two: the cell number. -/
theorem cellWord_two : ∀ y : Fin 28, cellWord 13#32 2#32 (BitVec.ofNat 32 y) = BitVec.ofNat 32 (min ((y : ℕ) / 2) (14 - 1)) := by
  decide +kernel

/-- The word of the number after a bin, modulo the number of bins `n`. -/
def nextWord (n v : BitVec 32) : BitVec 32 :=
  let d := Scalar.select (IntOp.cmpi CmpIPredicate.eq n 0#32) 1#32 n
  let r := IntOp.remsi ArithUnit.host (IntOp.addi v 1#32) d
  Scalar.select
    (IntOp.andi (IntOp.cmpi CmpIPredicate.ne (IntOp.cmpi CmpIPredicate.slt r 0#32) (IntOp.cmpi CmpIPredicate.slt d 0#32))
      (IntOp.cmpi CmpIPredicate.ne r 0#32))
    (IntOp.addi r d) r

/-- The bin after bin `k` of eight. -/
theorem nextWord_eight : ∀ k : Fin 8, nextWord 8#32 (BitVec.ofNat 32 k) = BitVec.ofNat 32 (((k : ℕ) + 1) % 8) := by
  decide +kernel

/-- The bin after bin `k` of nine. -/
theorem nextWord_nine : ∀ k : Fin 9, nextWord 9#32 (BitVec.ofNat 32 k) = BitVec.ofNat 32 (((k : ℕ) + 1) % 9) := by
  decide +kernel

/-- The bin after bin `k` of six. -/
theorem nextWord_six : ∀ k : Fin 6, nextWord 6#32 (BitVec.ofNat 32 k) = BitVec.ofNat 32 (((k : ℕ) + 1) % 6) := by
  decide +kernel

/-- The word of a table's entry: image, cell and bin put together. -/
theorem entry_word (b q H cy cx n k : ℕ) :
    IntOp.addi (IntOp.muli (IntOp.addi (IntOp.muli (BitVec.ofNat 32 b) (BitVec.ofNat 32 q))
        (IntOp.addi (IntOp.muli (BitVec.ofNat 32 cy) (BitVec.ofNat 32 H)) (BitVec.ofNat 32 cx))) (BitVec.ofNat 32 n)) (BitVec.ofNat 32 k)
      = BitVec.ofNat 32 ((b * q + (cy * H + cx)) * n + k) := by
  simp only [IntOp.addi, IntOp.muli, ← BitVec.ofNat_add, ← BitVec.ofNat_mul]

/-- A table's entry is no negative word, so the test for one leaves it. -/
theorem wrap_word (a : BitVec 32) {e : ℕ} (h : e < 2 ^ 31) :
    Scalar.select (IntOp.cmpi .slt (BitVec.ofNat 32 e) 0#32) a (BitVec.ofNat 32 e) = BitVec.ofNat 32 e := by
  refine Routing.wrap_of_lt _ _ ?_
  rw [BitVec.toNat_ofNat]
  omega

/-- The angle's remainder modulo 180 made nonnegative is the direction in degrees. -/
theorem degrees_test (a : EReal) :
    Scalar.select (IntOp.andi (IntOp.cmpi CmpIPredicate.ne
          (BitVec.ofBool (decide (Ideal.remf (a * Ideal.ofBits .f32 0x42652EE1#32 + Ideal.ofBits .f32 0x43340000#32) (Ideal.ofBits .f32 0x43340000#32) < 0)))
          (BitVec.ofBool (decide (Ideal.ofBits .f32 0x43340000#32 < 0))))
        (BitVec.ofBool (decide (Ideal.remf (a * Ideal.ofBits .f32 0x42652EE1#32 + Ideal.ofBits .f32 0x43340000#32) (Ideal.ofBits .f32 0x43340000#32) ≠ 0))))
      (Ideal.remf (a * Ideal.ofBits .f32 0x42652EE1#32 + Ideal.ofBits .f32 0x43340000#32) (Ideal.ofBits .f32 0x43340000#32) + Ideal.ofBits .f32 0x43340000#32)
      (Ideal.remf (a * Ideal.ofBits .f32 0x42652EE1#32 + Ideal.ofBits .f32 0x43340000#32) (Ideal.ofBits .f32 0x43340000#32))
      = degrees a := by
  unfold degrees
  generalize Ideal.remf (a * Ideal.ofBits .f32 0x42652EE1#32 + Ideal.ofBits .f32 0x43340000#32) (Ideal.ofBits .f32 0x43340000#32) = r
  simp only [decide_eq_false ofBits_180_nonneg]
  refine congrArg (Scalar.select · (r + _) r) ?_
  show _ = BitVec.ofBool (decide (r < 0))
  by_cases h : r < 0
  · simp only [decide_eq_true h, decide_eq_true h.ne]
    decide
  · simp only [decide_eq_false h]
    by_cases h' : r ≠ 0
    · simp only [decide_eq_true h']; decide
    · simp only [decide_eq_false h']; decide

end Cert.Hog

end
-- ==== Proof.ReferenceRead.lean ====
/- The reference's arrays, read at one entry: the gradients, directions and magnitudes. -/
module

public import proofs.«01_k».proof.Proof.Features
public import proofs.«01_k».proof.Proof.Words
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Hog

open Idealize.ShloMosaic Idealize.ShloMosaic.TcCoe
open Cert.ReferenceIdeal Cert.ReferenceIdeal.Gen Cert.ReferenceIdeal.Value

variable (V0 : Valuation τ sig (Elt Ideal))

/-- The reference's images with their borders. -/
def image (b : Fin 16384) : Fin 30 → Fin 30 → EReal := padded (V0 (Proc.devRef .tc main_arg0)) b

/-- The padded images. -/
theorem v0_at (b : Fin 16384) (r c : Fin 30) : res_main_v0 V0 (ix4 b 0 r c) = image V0 b r c := by
  unfold res_main_v0 image
  clean_types
  pointwise [padded]
  rw [sitofp_zero]

/-- The horizontal gradients agree. -/
theorem v49_at (b : Fin 16384) (y x : Fin 28) : Agree (gradX (image V0 b) y x) (res_main_v49 V0 (ix4 b 0 y x)) := by
  have h := grad_rows (image V0 b ⟨y, by omega⟩ ⟨x, by omega⟩) (image V0 b ⟨1 + y, by omega⟩ ⟨x, by omega⟩)
    (image V0 b ⟨2 + y, by omega⟩ ⟨x, by omega⟩) (image V0 b ⟨y, by omega⟩ ⟨2 + x, by omega⟩)
    (image V0 b ⟨1 + y, by omega⟩ ⟨2 + x, by omega⟩) (image V0 b ⟨2 + y, by omega⟩ ⟨2 + x, by omega⟩)
  rw [ofBits_one, EReal.coe_one, one_mul, one_mul] at h
  refine (congrArg (Agree _) ?_).mpr h
  unfold res_main_v49 res_main_v3 res_main_v14 res_main_v30 res_main_v41
  clean_types
  pointwise
  simp only [v0_at]

/-- The vertical gradients agree. -/
theorem v51_at (b : Fin 16384) (y x : Fin 28) : Agree (gradY (image V0 b) y x) (res_main_v51 V0 (ix4 b 0 y x)) := by
  have h := grad_sides (image V0 b ⟨y, by omega⟩ ⟨x, by omega⟩) (image V0 b ⟨y, by omega⟩ ⟨1 + x, by omega⟩)
    (image V0 b ⟨y, by omega⟩ ⟨2 + x, by omega⟩) (image V0 b ⟨2 + y, by omega⟩ ⟨x, by omega⟩)
    (image V0 b ⟨2 + y, by omega⟩ ⟨1 + x, by omega⟩) (image V0 b ⟨2 + y, by omega⟩ ⟨2 + x, by omega⟩)
  rw [ofBits_one, EReal.coe_one, one_mul, one_mul] at h
  refine (congrArg (Agree _) ?_).mpr h
  unfold res_main_v51 res_main_v3 res_main_v14 res_main_v30 res_main_v41
  clean_types
  pointwise
  simp only [v0_at]

/-- The directions. -/
theorem v63_at (b : Fin 16384) (y x : Fin 28) : res_main_v63 V0 (ix4 b 0 y x) = angAt (image V0 b) y x := by
  unfold res_main_v63 res_main_call1_v2 res_main_call1_v0 angAt
  rw [← (polar_congr (v49_at V0 b y x) (v51_at V0 b y x)).2]
  clean_types
  pointwise
  exact degrees_test _

/-- The magnitudes, at a pixel's place in the flat array. -/
theorem v100_at (b : Fin 16384) (y x : Fin 28) (h : (b : ℕ) * 784 + ((y : ℕ) * 28 + x) < 12845056) :
    res_main_v100 V0 (ix1 ⟨(b : ℕ) * 784 + ((y : ℕ) * 28 + x), h⟩) = magAt (image V0 b) y x := by
  unfold res_main_v100 magAt
  rw [← (polar_congr (v49_at V0 b y x) (v51_at V0 b y x)).1]
  clean_types
  pointwise
  rfl

end Cert.Hog

end
-- ==== Proof.Scatter.lean ====
/- An accumulating scatter of a line of values into a line, read at one entry, and the histogram it makes of the pixels. -/
module

public import proofs.«01_k».proof.Proof.Scalars

@[expose] public section

set_option maxRecDepth 16384

noncomputable section

namespace Cert.Hog

open Idealize.ShloMosaic

/-- A scatter of `K` scalars into a line of `N`, one index word each: update `u` lands at entry `e` exactly when its word,
    read signed, is `e`. -/
theorem lands_line {N K : ℕ} (d : ScatterDims ⟨1, ![N]⟩ ⟨2, ![K, 1]⟩ ⟨1, ![K]⟩) (huw : d.updateWindowDims = [])
    (hiw : d.insertedWindowDims = [0]) (hsd : d.scatterDimsToOperandDims = [0]) (hivd : d.indexVectorDim = 1)
    (idx : IVec ⟨2, ![K, 1]⟩ 32) (u : Fin K) (e : Fin N) :
    d.resultIdx? (ix1 u) idx = some (ix1 e) ↔ (idx (ix2 u 0)).toInt = ((e : ℕ) : ℤ) := by
  have hm : (0 : Fin 1) ∈ d.scatterDimsToOperandDims := by rw [hsd]; simp
  have hwin : d.window (ix1 u) 0 = 0 := by
    unfold ScatterDims.window
    exact dif_neg fun h => (of_decide_eq_true (List.mem_filter.1 h).2) (by rw [hiw]; simp)
  have hpos : d.siIdx (ix1 u) ⟨d.scatterDimsToOperandDims.idxOf (0 : Fin 1), List.idxOf_lt_length_iff.2 hm⟩ = ix2 u 0 := by
    have hu : d.uScatter = [0] := by
      show (Shape.kept ⟨1, ![K]⟩ d.updateWindowDims) = _
      rw [huw]; rfl
    have hk : d.siKept = [0] := by
      show (List.finRange 2).filter (fun x => decide (x.val ≠ d.indexVectorDim)) = _
      rw [hivd]; rfl
    have pick : ∀ (ls : List (Fin 1)) (n : ℕ) (h : n < ls.length), ls[n]'h = 0 := fun ls n h => Subsingleton.elim _ _
    funext a
    apply Fin.ext
    match a with
    | ⟨0, _⟩ =>
      unfold ScatterDims.siIdx
      rw [dif_neg (by rw [hivd]; exact (by decide : (0 : ℕ) ≠ 1))]
      unfold ScatterDims.siCoord
      simp only [Fin.val_cast]
      rw [pick]
      rfl
    | ⟨1, _⟩ =>
      unfold ScatterDims.siIdx
      rw [dif_pos (by rw [hivd])]
      show List.idxOf (0 : Fin 1) d.scatterDimsToOperandDims = 0
      rw [hsd]; rfl
  have hstart : d.start (ix1 u) idx 0 = (idx (ix2 u 0)).toInt := by
    unfold ScatterDims.start
    rw [dif_pos hm, hpos]
  unfold ScatterDims.resultIdx?
  constructor
  · intro h
    split at h
    · next hb =>
      have h0 := congrArg Fin.val (congrFun (Option.some.inj h) 0)
      change (d.start (ix1 u) idx 0 + (d.window (ix1 u) 0 : ℤ)).toNat = (e : ℕ) at h0
      have hb0 := (hb 0).1
      rw [hstart, hwin] at h0 hb0
      omega
    · cases h
  · intro h
    have hall : ∀ a, 0 ≤ d.start (ix1 u) idx a + d.window (ix1 u) a
        ∧ d.start (ix1 u) idx a + d.window (ix1 u) a < (Shape.size ⟨1, ![N]⟩ a : ℤ) := by
      intro a
      match a with
      | ⟨0, _⟩ =>
        change 0 ≤ d.start (ix1 u) idx 0 + (d.window (ix1 u) 0 : ℤ) ∧ d.start (ix1 u) idx 0 + (d.window (ix1 u) 0 : ℤ) < (N : ℤ)
        rw [hstart, hwin, h]
        have := e.isLt
        omega
    rw [dif_pos hall]
    refine congrArg some (funext fun a => Fin.ext ?_)
    match a with
    | ⟨0, _⟩ =>
      change (d.start (ix1 u) idx 0 + (d.window (ix1 u) 0 : ℤ)).toNat = (e : ℕ)
      rw [hstart, hwin, h]
      omega

/-- The accumulating scatter, read at one entry: the operand's entry plus the updates whose word names the entry. -/
theorem scatterAdd_line {N K : ℕ} (d : ScatterDims ⟨1, ![N]⟩ ⟨2, ![K, 1]⟩ ⟨1, ![K]⟩) (huw : d.updateWindowDims = [])
    (hiw : d.insertedWindowDims = [0]) (hsd : d.scatterDimsToOperandDims = [0]) (hivd : d.indexVectorDim = 1)
    (x : FVec Ideal ⟨1, ![N]⟩ .f32) (idx : IVec ⟨2, ![K, 1]⟩ 32) (upd : FVec Ideal ⟨1, ![K]⟩ .f32) (e : Fin N) :
    Host.scatterAdd d x idx upd (ix1 e)
      = (show EReal from x (ix1 e)) + ∑ u : Fin K, if (idx (ix2 u 0)).toInt = ((e : ℕ) : ℤ) then (show EReal from upd (ix1 u)) else 0 := by
  show (show EReal from x (ix1 e)) + _ = _
  rw [Finset.sum_filter, sum_idx1]
  refine congrArg _ (Finset.sum_congr rfl fun u _ => ?_)
  simp only [lands_line d huw hiw hsd hivd idx u e]

/-- A sum over all pixels of all images is the sum over the images, rows and columns. -/
theorem sum_pixels (f : Fin 12845056 → EReal) :
    (∑ u, f u) = ∑ b : Fin 16384, ∑ y : Fin 28, ∑ x : Fin 28, f ⟨(b : ℕ) * 784 + ((y : ℕ) * 28 + x), by omega⟩ := by
  rw [Fin.sum_univ_tiles 16384 784 rfl]
  refine Finset.sum_congr rfl fun b _ => ?_
  rw [Fin.sum_univ_tiles 28 28 rfl]

/-- Two numbers written with the same last digit base have the same digits. -/
theorem digits_eq {n a r a' r' : ℕ} (h : r < n) (h' : r' < n) : a * n + r = a' * n + r' ↔ a = a' ∧ r = r' := by
  constructor
  · intro e
    have hn : 0 < n := Nat.lt_of_le_of_lt (Nat.zero_le _) h
    have e1 := congrArg (· / n) e
    have e2 := congrArg (· % n) e
    simp only [Nat.mul_comm _ n, Nat.mul_add_div hn, Nat.mul_add_mod, Nat.div_eq_of_lt h, Nat.div_eq_of_lt h',
      Nat.mod_eq_of_lt h, Nat.mod_eq_of_lt h'] at e1 e2
    exact ⟨by simpa using e1, e2⟩
  · rintro ⟨rfl, rfl⟩; rfl

/-- The entries of a flat table of `H × H` cells with `n` bins for each image: the pixels' values, each sent to its own
    image, cell and bin, add up in entry `(b, cy, cx, k)` to the values of that image's pixels in that cell and bin. -/
theorem sum_landing (H n c : ℕ) (hH : 0 < H) (hsz : 16384 * (H * H) * n < 2 ^ 31) (w : Fin 12845056 → BitVec 32)
    (v : Fin 12845056 → EReal) (B : Fin 16384 → Fin 28 → Fin 28 → ℕ) (hB : ∀ b y x, B b y x < n)
    (hw : ∀ (b : Fin 16384) (y x : Fin 28), w ⟨(b : ℕ) * 784 + ((y : ℕ) * 28 + x), by omega⟩
      = BitVec.ofNat 32 (((b : ℕ) * (H * H) + (min ((y : ℕ) / c) (H - 1) * H + min ((x : ℕ) / c) (H - 1))) * n + B b y x))
    (b : Fin 16384) (cy cx k : ℕ) (hcy : cy < H) (hcx : cx < H) (hk : k < n) :
    (∑ u : Fin 12845056, if (w u).toInt = ((((b : ℕ) * H + cy) * H + cx) * n + k : ℕ) then v u else 0)
      = ∑ y : Fin 28, ∑ x : Fin 28, if min ((y : ℕ) / c) (H - 1) = cy ∧ min ((x : ℕ) / c) (H - 1) = cx then
          (if B b y x = k then v ⟨(b : ℕ) * 784 + ((y : ℕ) * 28 + x), by omega⟩ else 0) else 0 := by
  have key : ∀ (b' : Fin 16384) (y x : Fin 28),
      (w ⟨(b' : ℕ) * 784 + ((y : ℕ) * 28 + x), by omega⟩).toInt = ((((b : ℕ) * H + cy) * H + cx) * n + k : ℕ)
        ↔ b' = b ∧ (min ((y : ℕ) / c) (H - 1) = cy ∧ min ((x : ℕ) / c) (H - 1) = cx) ∧ B b' y x = k := by
    intro b' y x
    rw [hw]
    generalize hp : min ((y : ℕ) / c) (H - 1) = p
    generalize hq : min ((x : ℕ) / c) (H - 1) = q
    have hp' : p < H := by omega
    have hq' : q < H := by omega
    have hr := hB b' y x
    have e : (b' : ℕ) * (H * H) + (p * H + q) = ((b' : ℕ) * H + p) * H + q := by ring
    rw [e]
    have hlt : (((b' : ℕ) * H + p) * H + q) * n + B b' y x < 2 ^ 31 := by
      refine Nat.lt_of_lt_of_le (m := ((((b' : ℕ) * H + p) * H + q) + 1) * n) (by rw [Nat.succ_mul]; omega) ?_
      refine Nat.le_trans (Nat.mul_le_mul_right n ?_) hsz.le
      have h1 : (b' : ℕ) * H + p + 1 ≤ 16384 * H := by
        have := Nat.mul_le_mul_right H (Nat.succ_le_of_lt b'.isLt)
        rw [Nat.succ_mul] at this
        omega
      have h2 := Nat.mul_le_mul_right H h1
      rw [Nat.succ_mul, Nat.mul_assoc] at h2
      omega
    have ht : (BitVec.ofNat 32 ((((b' : ℕ) * H + p) * H + q) * n + B b' y x)).toInt
        = (((((b' : ℕ) * H + p) * H + q) * n + B b' y x : ℕ) : ℤ) := by
      rw [BitVec.toInt_eq_toNat_of_lt]
      · rw [BitVec.toNat_ofNat, Nat.mod_eq_of_lt (by omega)]
      · rw [BitVec.toNat_ofNat, Nat.mod_eq_of_lt (by omega)]; omega
    rw [ht, Nat.cast_inj, digits_eq hr hk, digits_eq hq' hcx, digits_eq hp' hcy, Fin.ext_iff]
    tauto
  rw [sum_pixels]
  simp only [key]
  rw [Finset.sum_eq_single b]
  · refine Finset.sum_congr rfl fun y _ => Finset.sum_congr rfl fun x _ => ?_
    simp only [true_and, ite_and]
  · intro b' _ hb
    simp only [hb, false_and, if_false, Finset.sum_const_zero]
  · intro h; exact (h (Finset.mem_univ _)).elim

/-- What is left of a pixel's magnitude in its own bin and what goes to the next bin, each added up over the pixels of
    a cell that send it to bin `k`, make together the cell's sum of the votes for `k`. -/
theorem cell_vote (c l m : ℕ) (w i : EReal) (M A : Fin 28 → Fin 28 → EReal) (cy cx k : ℕ) :
    (∑ y : Fin 28, ∑ x : Fin 28, if min ((y : ℕ) / c) l = cy ∧ min ((x : ℕ) / c) l = cx then
        (if bin m (A y x * i) = k then M y x * (1 - (A y x - ((bin m (A y x * i) : ℝ) : EReal) * w) * i) else 0) else 0)
      + (∑ y : Fin 28, ∑ x : Fin 28, if min ((y : ℕ) / c) l = cy ∧ min ((x : ℕ) / c) l = cx then
        (if (bin m (A y x * i) + 1) % (m + 1) = k then M y x * ((A y x - ((bin m (A y x * i) : ℝ) : EReal) * w) * i) else 0) else 0)
      = cell c l (fun y x => vote m w i (M y x) (A y x) k) cy cx := by
  unfold cell
  rw [← Finset.sum_add_distrib]
  refine Finset.sum_congr rfl fun y _ => ?_
  rw [← Finset.sum_add_distrib]
  refine Finset.sum_congr rfl fun x _ => ?_
  by_cases h : min ((y : ℕ) / c) l = cy ∧ min ((x : ℕ) / c) l = cx
  · simp only [if_pos h]; rfl
  · simp only [if_neg h, add_zero]

/-- A flat table of `H × H` cells with `m + 1` bins for each image, filled by adding every pixel's two votes at the
    entries of its cell and of its bin and the next: an entry holds its cell's votes for its bin. -/
theorem table {N : ℕ} (H n c m : ℕ) (hH : 0 < H) (hn : n = m + 1) (hsz : 16384 * (H * H) * n < 2 ^ 31)
    (d : ScatterDims ⟨1, ![N]⟩ ⟨2, ![12845056, 1]⟩ ⟨1, ![12845056]⟩) (huw : d.updateWindowDims = [])
    (hiw : d.insertedWindowDims = [0]) (hsd : d.scatterDimsToOperandDims = [0]) (hivd : d.indexVectorDim = 1)
    (w i : EReal) (M A : Fin 16384 → Fin 28 → Fin 28 → EReal) (z : FVec Ideal ⟨1, ![N]⟩ .f32) (hz : ∀ e, z (ix1 e) = (0 : EReal))
    (i0 i1 : IVec ⟨2, ![12845056, 1]⟩ 32) (u0 u1 : FVec Ideal ⟨1, ![12845056]⟩ .f32)
    (hi0 : ∀ (b : Fin 16384) (y x : Fin 28), i0 (ix2 ⟨(b : ℕ) * 784 + ((y : ℕ) * 28 + x), by omega⟩ 0)
      = BitVec.ofNat 32 (((b : ℕ) * (H * H) + (min ((y : ℕ) / c) (H - 1) * H + min ((x : ℕ) / c) (H - 1))) * n
          + bin m (A b y x * i)))
    (hi1 : ∀ (b : Fin 16384) (y x : Fin 28), i1 (ix2 ⟨(b : ℕ) * 784 + ((y : ℕ) * 28 + x), by omega⟩ 0)
      = BitVec.ofNat 32 (((b : ℕ) * (H * H) + (min ((y : ℕ) / c) (H - 1) * H + min ((x : ℕ) / c) (H - 1))) * n
          + (bin m (A b y x * i) + 1) % (m + 1)))
    (hu0 : ∀ (b : Fin 16384) (y x : Fin 28), u0 (ix1 ⟨(b : ℕ) * 784 + ((y : ℕ) * 28 + x), by omega⟩)
      = M b y x * (1 - (A b y x - ((bin m (A b y x * i) : ℝ) : EReal) * w) * i))
    (hu1 : ∀ (b : Fin 16384) (y x : Fin 28), u1 (ix1 ⟨(b : ℕ) * 784 + ((y : ℕ) * 28 + x), by omega⟩)
      = M b y x * ((A b y x - ((bin m (A b y x * i) : ℝ) : EReal) * w) * i))
    (b : Fin 16384) (cy cx k : ℕ) (hcy : cy < H) (hcx : cx < H) (hk : k < n) (e : Fin N)
    (he : (e : ℕ) = (((b : ℕ) * H + cy) * H + cx) * n + k) :
    Host.scatterAdd d (Host.scatterAdd d z i0 u0) i1 u1 (ix1 e)
      = cell c (H - 1) (fun y x => vote m w i (M b y x) (A b y x) k) cy cx := by
  rw [scatterAdd_line d huw hiw hsd hivd, scatterAdd_line d huw hiw hsd hivd, hz, zero_add, he]
  rw [sum_landing H n c hH hsz (fun u => i0 (ix2 u 0)) (fun u => u0 (ix1 u)) (fun b y x => bin m (A b y x * i))
      (fun b y x => by rw [hn]; exact Nat.lt_succ_of_le (bin_le m _)) hi0 b cy cx k hcy hcx hk,
    sum_landing H n c hH hsz (fun u => i1 (ix2 u 0)) (fun u => u1 (ix1 u)) (fun b y x => (bin m (A b y x * i) + 1) % (m + 1))
      (fun b y x => by rw [hn]; exact Nat.mod_lt _ (Nat.succ_pos m)) hi1 b cy cx k hcy hcx hk]
  simp only [hu0, hu1]
  exact cell_vote c (H - 1) m w i (M b) (A b) cy cx k

end Cert.Hog

end
-- ==== Proof.Scale.lean ====
/- One scale of the reference, stated for any number of bins: bin numbers, cell numbers, remainders, the table of votes. -/
module

public import proofs.«01_k».proof.Proof.Scatter
public import proofs.«01_k».proof.Proof.Features
public import proofs.«01_k».proof.Proof.Words
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Hog

open Idealize.ShloMosaic Idealize.ShloMosaic.TcCoe
open Cert.ReferenceIdeal Cert.ReferenceIdeal.Gen

/-- A scale: `H` by `H` cells `c` pixels wide, bins `0 … m` of width `w` (the float word `W`), and `i` its inverse. -/
structure Scale where
  H : ℕ
  m : ℕ
  c : ℕ
  w : ℝ
  i : ℝ
  W : BitVec 32
  pos : 0 < H
  lt : m < 2 ^ 31
  size : 16384 * (H * H) * (m + 1) < 2 ^ 31
  ne : w ≠ 0
  inv : 1 / w = i
  width : Ideal.ofBits .f32 W = (w : EReal)
  cells : ∀ y : Fin 28, cellWord (BitVec.ofNat 32 (H - 1)) (BitVec.ofNat 32 c) (BitVec.ofNat 32 y)
    = BitVec.ofNat 32 (min ((y : ℕ) / c) (H - 1))
  next : ∀ k : Fin (m + 1), nextWord (BitVec.ofNat 32 (m + 1)) (BitVec.ofNat 32 k) = BitVec.ofNat 32 (((k : ℕ) + 1) % (m + 1))

/-- Eight bins. -/
def eight : Scale := ⟨7, 7, 4, 45 / 2, 2 / 45, 0x41B40000#32, by norm_num, by norm_num, by norm_num, by norm_num, by norm_num,
  ofBits_w8, cellWord_four, nextWord_eight⟩

/-- Nine bins. -/
def nine : Scale := ⟨9, 8, 3, 20, 1 / 20, 0x41A00000#32, by norm_num, by norm_num, by norm_num, by norm_num, by norm_num,
  ofBits_w9, cellWord_three, nextWord_nine⟩

/-- Six bins. -/
def six : Scale := ⟨14, 5, 2, 30, 1 / 30, 0x41F00000#32, by norm_num, by norm_num, by norm_num, by norm_num, by norm_num,
  ofBits_w6, cellWord_two, nextWord_six⟩

namespace Scale

variable (s : Scale)

/-- An image's histogram of a cell at a bin. -/
def hist (Z : Fin 30 → Fin 30 → EReal) (cy cx k : ℕ) : EReal := Hog.hist s.c (s.H - 1) s.m s.w s.i Z cy cx k

/-- The bins of the directions `A`. -/
def bins (A : FVec Ideal S16384x1x28x28 .f32) : IVec S16384x1x28x28 32 :=
  fptosi 32 (minimumf (broadcastInDim S16384x1x28x28 ![] bcast_S_S16384x1x28x28 (sitofp .f32 (constantI S_ 32 (BitVec.ofNat 32 s.m))))
    (maximumf (broadcastInDim S16384x1x28x28 ![] bcast_S_S16384x1x28x28 (sitofp .f32 (constantI S_ 32 0#32)))
      (Host.floor (Host.divf A (broadcastInDim S16384x1x28x28 ![] bcast_S_S16384x1x28x28 (constant S_ .f32 s.W))))))

/-- The bins' remainders over the width, flat. -/
def fracs (A : FVec Ideal S16384x1x28x28 .f32) : FVec Ideal S12845056 .f32 :=
  shapeCast _ (Host.divf (subf A (mulf (sitofp .f32 (s.bins A))
    (broadcastInDim S16384x1x28x28 ![] bcast_S_S16384x1x28x28 (constant S_ .f32 s.W))))
    (broadcastInDim S16384x1x28x28 ![] bcast_S_S16384x1x28x28 (constant S_ .f32 s.W))) shapeCasts_S16384x1x28x28_S12845056

/-- The cells' numbers down a column of pixels. -/
def cellRows : IVec S28x1 32 :=
  let v : IVec S28x1 32 := broadcastInDim S28x1 ![0] bcast_S28_S28x1_0 (iotaInDim S28 32 0)
  let c : IVec S_ 32 := constantI S_ 32 (BitVec.ofNat 32 s.c)
  let q := Host.divsi v (broadcastInDim S28x1 ![] bcast_S_S28x1 c)
  minsi (broadcastInDim S28x1 ![] bcast_S_S28x1 (constantI S_ 32 (BitVec.ofNat 32 (s.H - 1))))
    (maxsi (broadcastInDim S28x1 ![] bcast_S_S28x1 (constantI S_ 32 0#32))
      (select (andi (cmpi .ne (signi v) (broadcastInDim S28x1 ![] bcast_S_S28x1 (signi c)))
          (cmpi .ne (Host.remsi v (broadcastInDim S28x1 ![] bcast_S_S28x1 c)) (broadcastInDim S28x1 ![] bcast_S_S28x1 (constantI S_ 32 0#32))))
        (subi q (broadcastInDim S28x1 ![] bcast_S_S28x1 (constantI S_ 32 1#32))) q))

/-- The cells' numbers along a row of pixels. -/
def cellCols : IVec S1x28 32 :=
  let v : IVec S1x28 32 := broadcastInDim S1x28 ![1] bcast_S28_S1x28_1 (iotaInDim S28 32 0)
  let c : IVec S_ 32 := constantI S_ 32 (BitVec.ofNat 32 s.c)
  let q := Host.divsi v (broadcastInDim S1x28 ![] bcast_S_S1x28 c)
  minsi (broadcastInDim S1x28 ![] bcast_S_S1x28 (constantI S_ 32 (BitVec.ofNat 32 (s.H - 1))))
    (maxsi (broadcastInDim S1x28 ![] bcast_S_S1x28 (constantI S_ 32 0#32))
      (select (andi (cmpi .ne (signi v) (broadcastInDim S1x28 ![] bcast_S_S1x28 (signi c)))
          (cmpi .ne (Host.remsi v (broadcastInDim S1x28 ![] bcast_S_S1x28 c)) (broadcastInDim S1x28 ![] bcast_S_S1x28 (constantI S_ 32 0#32))))
        (subi q (broadcastInDim S1x28 ![] bcast_S_S1x28 (constantI S_ 32 1#32))) q))

/-- The cells' numbers among all images', flat. -/
def places : IVec S12845056 32 :=
  shapeCast _ (addi (broadcastInDim S16384x1x28x28 ![0, 1, 2, 3] bcast_S16384x1x1x1_S16384x1x28x28_0_1_2_3
      (muli (broadcastInDim S16384x1x1x1 ![0] bcast_S16384_S16384x1x1x1_0 (iotaInDim S16384 32 0))
        (broadcastInDim S16384x1x1x1 ![] bcast_S_S16384x1x1x1 (constantI S_ 32 (BitVec.ofNat 32 (s.H * s.H))))))
    (broadcastInDim S16384x1x28x28 ![0, 1, 2, 3] bcast_S1x1x28x28_S16384x1x28x28_0_1_2_3
      (broadcastInDim S1x1x28x28 ![2, 3] bcast_S28x28_S1x1x28x28_2_3
        (addi (broadcastInDim S28x28 ![0, 1] bcast_S28x1_S28x28_0_1
            (muli s.cellRows (broadcastInDim S28x1 ![] bcast_S_S28x1 (constantI S_ 32 (BitVec.ofNat 32 s.H)))))
          (broadcastInDim S28x28 ![0, 1] bcast_S1x28_S28x28_0_1 s.cellCols))))) shapeCasts_S16384x1x28x28_S12845056

/-- The bins after the bins `B`, modulo their number. -/
def after (B : IVec S16384x1x28x28 32) : IVec S16384x1x28x28 32 :=
  let n : IVec S_ 32 := constantI S_ 32 (BitVec.ofNat 32 (s.m + 1))
  let d := select (cmpi .eq n (constantI S_ 32 0#32)) (constantI S_ 32 1#32) n
  let r := Host.remsi (addi B (broadcastInDim S16384x1x28x28 ![] bcast_S_S16384x1x28x28 (constantI S_ 32 1#32)))
    (broadcastInDim S16384x1x28x28 ![] bcast_S_S16384x1x28x28 d)
  select (andi (cmpi .ne (cmpi .slt r (broadcastInDim S16384x1x28x28 ![] bcast_S_S16384x1x28x28 (constantI S_ 32 0#32)))
        (broadcastInDim S16384x1x28x28 ![] bcast_S_S16384x1x28x28 (cmpi .slt d (constantI S_ 32 0#32))))
      (cmpi .ne r (broadcastInDim S16384x1x28x28 ![] bcast_S_S16384x1x28x28 (constantI S_ 32 0#32))))
    (addi r (broadcastInDim S16384x1x28x28 ![] bcast_S_S16384x1x28x28 d)) r

/-- The table's entries of the bins `B`, flat. -/
def entries (B : IVec S16384x1x28x28 32) : IVec S12845056 32 :=
  addi (muli s.places (broadcastInDim S12845056 ![] bcast_S_S12845056 (constantI S_ 32 (BitVec.ofNat 32 (s.m + 1)))))
    (shapeCast _ B shapeCasts_S16384x1x28x28_S12845056)

/-- Entries made nonnegative for a table of `N`, as the scatter takes them. -/
def wrapped (N : BitVec 32) (e : IVec S12845056 32) : IVec S12845056x1 32 :=
  broadcastInDim S12845056x1 ![0] bcast_S12845056_S12845056x1_0
    (select (cmpi .slt e (broadcastInDim S12845056 ![] bcast_S_S12845056 (constantI S_ 32 0#32)))
      (addi e (broadcastInDim S12845056 ![] bcast_S_S12845056 (constantI S_ 32 N))) e)

/-- The table of votes: the magnitudes `M` shared out between the directions' bins and the bins after them. -/
def votes {N : ℕ} (d : ScatterDims ⟨1, ![N]⟩ ⟨2, ![12845056, 1]⟩ ⟨1, ![12845056]⟩) (z : FVec Ideal ⟨1, ![N]⟩ .f32)
    (M : FVec Ideal S12845056 .f32) (A : FVec Ideal S16384x1x28x28 .f32) : FVec Ideal ⟨1, ![N]⟩ .f32 :=
  Host.scatterAdd d (Host.scatterAdd d z (wrapped (BitVec.ofNat 32 N) (s.entries (s.bins A)))
      (mulf M (subf (broadcastInDim S12845056 ![] bcast_S_S12845056 (constant S_ .f32 0x3F800000#32)) (s.fracs A))))
    (wrapped (BitVec.ofNat 32 N) (s.entries (s.after (s.bins A)))) (mulf M (s.fracs A))

/-- The bin of a pixel. -/
theorem bins_at (A : FVec Ideal S16384x1x28x28 .f32) (b : Fin 16384) (y x : Fin 28) :
    s.bins A (ix4 b 0 y x) = BitVec.ofNat 32 (bin s.m (A (ix4 b 0 y x) * (s.i : EReal))) := by
  unfold bins
  clean_types
  pointwise
  exact bin_word s.lt s.ne s.inv s.width

/-- The remainder of a pixel. -/
theorem fracs_at (A : FVec Ideal S16384x1x28x28 .f32) (b : Fin 16384) (y x : Fin 28)
    (h : (b : ℕ) * 784 + ((y : ℕ) * 28 + x) < 12845056) : s.fracs A (ix1 ⟨(b : ℕ) * 784 + ((y : ℕ) * 28 + x), h⟩)
      = (A (ix4 b 0 y x) - ((bin s.m (A (ix4 b 0 y x) * (s.i : EReal)) : ℝ) : EReal) * (s.w : EReal)) * (s.i : EReal) := by
  unfold fracs
  clean_types
  pointwise
  rw [bins_at, sitofp_nat (lt_of_le_of_lt (bin_le _ _) s.lt), s.width, Ideal.div_coe s.ne, s.inv]

/-- The cell of a pixel's row. -/
theorem cellRows_at (y : Fin 28) : s.cellRows (ix2 y 0) = BitVec.ofNat 32 (min ((y : ℕ) / s.c) (s.H - 1)) := by
  rw [← s.cells y]
  unfold cellRows
  clean_types
  pointwise
  rfl

/-- The cell of a pixel's column. -/
theorem cellCols_at (x : Fin 28) : s.cellCols (ix2 0 x) = BitVec.ofNat 32 (min ((x : ℕ) / s.c) (s.H - 1)) := by
  rw [← s.cells x]
  unfold cellCols
  clean_types
  pointwise
  rfl

/-- The cell of a pixel, among all images'. -/
theorem places_at (b : Fin 16384) (y x : Fin 28) (h : (b : ℕ) * 784 + ((y : ℕ) * 28 + x) < 12845056) :
    s.places (ix1 ⟨(b : ℕ) * 784 + ((y : ℕ) * 28 + x), h⟩)
      = IntOp.addi (IntOp.muli (BitVec.ofNat 32 b) (BitVec.ofNat 32 (s.H * s.H)))
        (IntOp.addi (IntOp.muli (BitVec.ofNat 32 (min ((y : ℕ) / s.c) (s.H - 1))) (BitVec.ofNat 32 s.H))
          (BitVec.ofNat 32 (min ((x : ℕ) / s.c) (s.H - 1)))) := by
  rw [← cellRows_at, ← cellCols_at]
  unfold places
  clean_types
  pointwise

/-- The bin after a pixel's bin. -/
theorem after_at (A : FVec Ideal S16384x1x28x28 .f32) (b : Fin 16384) (y x : Fin 28) :
    s.after (s.bins A) (ix4 b 0 y x) = BitVec.ofNat 32 ((bin s.m (A (ix4 b 0 y x) * (s.i : EReal)) + 1) % (s.m + 1)) := by
  rw [← s.next ⟨bin s.m (A (ix4 b 0 y x) * (s.i : EReal)), Nat.lt_succ_of_le (bin_le _ _)⟩, ← bins_at]
  unfold after
  clean_types
  pointwise
  rfl

/-- The entry of a pixel. -/
theorem entries_at (B : IVec S16384x1x28x28 32) (b : Fin 16384) (y x : Fin 28) (k : ℕ) (hk : B (ix4 b 0 y x) = BitVec.ofNat 32 k)
    (h : (b : ℕ) * 784 + ((y : ℕ) * 28 + x) < 12845056) : s.entries B (ix1 ⟨(b : ℕ) * 784 + ((y : ℕ) * 28 + x), h⟩)
      = BitVec.ofNat 32 (((b : ℕ) * (s.H * s.H) + (min ((y : ℕ) / s.c) (s.H - 1) * s.H + min ((x : ℕ) / s.c) (s.H - 1))) * (s.m + 1) + k) := by
  rw [← entry_word, ← places_at s b y x h, ← hk]
  unfold entries
  clean_types
  pointwise

/-- A pixel's entry lies in the table. -/
theorem entry_lt (b : Fin 16384) (y x k : ℕ) (hk : k ≤ s.m) :
    ((b : ℕ) * (s.H * s.H) + (min y (s.H - 1) * s.H + min x (s.H - 1))) * (s.m + 1) + k < 2 ^ 31 := by
  have hp := s.pos
  have h1 : min y (s.H - 1) ≤ s.H - 1 := Nat.min_le_right _ _
  have h2 : min x (s.H - 1) < s.H := lt_of_le_of_lt (Nat.min_le_right _ _) (by omega)
  have h3 : min y (s.H - 1) * s.H + min x (s.H - 1) + 1 ≤ s.H * s.H := by
    calc min y (s.H - 1) * s.H + min x (s.H - 1) + 1 ≤ (s.H - 1) * s.H + s.H := by
          have := Nat.mul_le_mul_right s.H h1
          omega
      _ = s.H * s.H := by rw [Nat.sub_mul, Nat.one_mul, Nat.sub_add_cancel (Nat.le_mul_of_pos_left _ hp)]
  have h4 : (b : ℕ) * (s.H * s.H) + (min y (s.H - 1) * s.H + min x (s.H - 1)) + 1 ≤ 16384 * (s.H * s.H) := by
    have h5 : ((b : ℕ) + 1) * (s.H * s.H) ≤ 16384 * (s.H * s.H) := Nat.mul_le_mul_right _ b.isLt
    rw [Nat.add_mul, Nat.one_mul] at h5
    omega
  have h6 := Nat.mul_le_mul_right (s.m + 1) h4
  rw [Nat.add_mul _ 1, Nat.one_mul] at h6
  have := s.size
  omega

/-- The table of votes: every entry is its cell's histogram at its bin. -/
theorem votes_at {N : ℕ} (d : ScatterDims ⟨1, ![N]⟩ ⟨2, ![12845056, 1]⟩ ⟨1, ![12845056]⟩) (huw : d.updateWindowDims = [])
    (hiw : d.insertedWindowDims = [0]) (hsd : d.scatterDimsToOperandDims = [0]) (hivd : d.indexVectorDim = 1)
    (z : FVec Ideal ⟨1, ![N]⟩ .f32) (hz : ∀ e, z (ix1 e) = (0 : EReal)) (M : FVec Ideal S12845056 .f32)
    (A : FVec Ideal S16384x1x28x28 .f32) (Z : Fin 16384 → Fin 30 → Fin 30 → EReal)
    (hM : ∀ (b : Fin 16384) (y x : Fin 28) h, M (ix1 ⟨(b : ℕ) * 784 + ((y : ℕ) * 28 + x), h⟩) = magAt (Z b) y x)
    (hA : ∀ (b : Fin 16384) (y x : Fin 28), A (ix4 b 0 y x) = angAt (Z b) y x) (b : Fin 16384) (cy cx k : ℕ) (hcy : cy < s.H)
    (hcx : cx < s.H) (hk : k < s.m + 1) (e : Fin N) (he : (e : ℕ) = (((b : ℕ) * s.H + cy) * s.H + cx) * (s.m + 1) + k) :
    s.votes d z M A (ix1 e) = s.hist (Z b) cy cx k := by
  refine table s.H (s.m + 1) s.c s.m s.pos rfl s.size d huw hiw hsd hivd (s.w : EReal) (s.i : EReal)
    (fun b => magAt (Z b)) (fun b => angAt (Z b)) z hz _ _ _ _ (fun b y x => ?_) (fun b y x => ?_)
    (fun b y x => ?_) (fun b y x => ?_) b cy cx k hcy hcx hk e he
  · unfold wrapped
    clean_types
    pointwise
    rw [entries_at s (s.bins A) b y x _ (bins_at s A b y x), hA]
    exact wrap_word _ (entry_lt s b _ _ _ (bin_le _ _))
  · unfold wrapped
    clean_types
    pointwise
    rw [entries_at s (s.after (s.bins A)) b y x _ (after_at s A b y x), hA]
    exact wrap_word _ (entry_lt s b _ _ _ (Nat.le_of_lt_succ (Nat.mod_lt _ (by omega))))
  · pointwise
    rw [fracs_at, hM, hA]
  · pointwise
    rw [fracs_at, hM, hA]

end Scale

/-- Four arrays one after another, a cell's and its neighbours': the block of two by two cells. -/
theorem four_cells (T : ℕ → ℕ → EReal) (a b : ℕ) {q : ℕ} (hq : q < 4) :
    (if q < 1 then T a b else if q - 1 < 1 then T a (1 + b) else if q - 1 - 1 < 1 then T (1 + a) b else T (1 + a) (1 + b))
      = T (a + q / 2) (b + q % 2) := by
  interval_cases q <;> simp [Nat.add_comm]

/-- Two by two cells' histograms, normalized twice and clipped between, are a block's features. -/
theorem block_of_cells (s : Scale) (n : ℕ) (Z : Fin 30 → Fin 30 → EReal) (a b : ℕ) (v u : Fin (4 * n) → EReal)
    (hv : ∀ j : Fin (4 * n), v j = s.hist Z (a + (j : ℕ) / n / 2) (b + (j : ℕ) / n % 2) ((j : ℕ) % n))
    (hu : ∀ k, u k = min (Ideal.div (v k) (Ideal.sqrt ((∑ l, v l * v l) + eps))) (Ideal.ofBits .f32 0x3E4CCCCD#32)) (j : Fin (4 * n)) :
    Ideal.div (u j) (Ideal.sqrt ((∑ k, u k * u k) + eps)) = block s.c (s.H - 1) s.m n s.w s.i Z a b j := by
  rw [div_normed v u j hu, funext hv]
  rfl

end Cert.Hog

end
-- ==== Proof.ReferenceBlocks.lean ====
/- The reference's tables of votes and blocks, at its three scales. -/
module

public import proofs.«01_k».proof.Proof.ReferenceRead
public import proofs.«01_k».proof.Proof.Scale

@[expose] public section

set_option maxRecDepth 16384

noncomputable section

namespace Cert.Hog

open Idealize.ShloMosaic Idealize.ShloMosaic.TcCoe
open Cert.ReferenceIdeal Cert.ReferenceIdeal.Gen Cert.ReferenceIdeal.Value

variable (V0 : Valuation τ sig (Elt Ideal))

/-- The eight-bin table: every entry is its cell's histogram at its bin. -/
theorem table8_at (b : Fin 16384) (cy cx : Fin 7) (k : Fin 8) :
    res_main_v129 V0 (ix4 b cy cx k) = eight.hist (image V0 b) cy cx k := by
  have e : res_main_v129 V0 = shapeCast S16384x7x7x8 (eight.votes scatter_S6422528_S12845056x1_S12845056_n_0_0_1
    (broadcastInDim S6422528 ![] bcast_S_S6422528 (constant S_ .f32 0x00000000#32)) (res_main_v100 V0) (res_main_v63 V0))
    shapeCasts_S6422528_S16384x7x7x8 := rfl
  rw [e]
  pointwise
  refine eight.votes_at _ rfl rfl rfl rfl _ (fun e => ?_) _ _ (image V0) (v100_at V0) (v63_at V0) b cy cx k cy.isLt cx.isLt k.isLt _ ?_
  · pointwise
  · show _ = ((((b : ℕ) * 7 + cy) * 7 + cx) * (7 + 1) + k : ℕ)
    dsimp only
    omega

/-- The nine-bin table: every entry is its cell's histogram at its bin. -/
theorem table9_at (b : Fin 16384) (cy cx : Fin 9) (k : Fin 9) :
    res_main_v236 V0 (ix4 b cy cx k) = nine.hist (image V0 b) cy cx k := by
  have e : res_main_v236 V0 = shapeCast S16384x9x9x9 (nine.votes scatter_S11943936_S12845056x1_S12845056_n_0_0_1
    (broadcastInDim S11943936 ![] bcast_S_S11943936 (constant S_ .f32 0x00000000#32)) (res_main_v100 V0) (res_main_v63 V0))
    shapeCasts_S11943936_S16384x9x9x9 := rfl
  rw [e]
  pointwise
  refine nine.votes_at _ rfl rfl rfl rfl _ (fun e => ?_) _ _ (image V0) (v100_at V0) (v63_at V0) b cy cx k cy.isLt cx.isLt k.isLt _ ?_
  · pointwise
  · show _ = ((((b : ℕ) * 9 + cy) * 9 + cx) * (8 + 1) + k : ℕ)
    dsimp only
    omega

/-- The six-bin table: every entry is its cell's histogram at its bin. -/
theorem table6_at (b : Fin 16384) (cy cx : Fin 14) (k : Fin 6) :
    res_main_v343 V0 (ix4 b cy cx k) = six.hist (image V0 b) cy cx k := by
  have e : res_main_v343 V0 = shapeCast S16384x14x14x6 (six.votes scatter_S19267584_S12845056x1_S12845056_n_0_0_1
    (broadcastInDim S19267584 ![] bcast_S_S19267584 (constant S_ .f32 0x00000000#32)) (res_main_v100 V0) (res_main_v63 V0))
    shapeCasts_S19267584_S16384x14x14x6 := rfl
  rw [e]
  pointwise
  refine six.votes_at _ rfl rfl rfl rfl _ (fun e => ?_) _ _ (image V0) (v100_at V0) (v63_at V0) b cy cx k cy.isLt cx.isLt k.isLt _ ?_
  · pointwise
  · show _ = ((((b : ℕ) * 14 + cy) * 14 + cx) * (5 + 1) + k : ℕ)
    dsimp only
    omega

/-- Two by two eight-bin cells' histograms. -/
def cells8 (b : Fin 16384) (cy cx : Fin 6) (j : Fin 32) : EReal := res_main_v139 V0 (ix4 b cy cx j)

/-- Two by two nine-bin cells' histograms. -/
def cells9 (b : Fin 16384) (cy cx : Fin 8) (j : Fin 36) : EReal := res_main_v246 V0 (ix4 b cy cx j)

/-- Two by two six-bin cells' histograms. -/
def cells6 (b : Fin 16384) (cy cx : Fin 13) (j : Fin 24) : EReal := res_main_v353 V0 (ix4 b cy cx j)

/-- The eight-bin cells, from the table. -/
theorem cells8_at (b : Fin 16384) (cy cx : Fin 6) (j : Fin 32) :
    cells8 V0 b cy cx j = eight.hist (image V0 b) ((cy : ℕ) + (j : ℕ) / 8 / 2) ((cx : ℕ) + (j : ℕ) / 8 % 2) ((j : ℕ) % 8) := by
  unfold cells8 res_main_v139
  clean_types
  pointwise
  simp only [table8_at, dite_eq_ite]
  exact four_cells (fun p q => eight.hist (image V0 b) p q ((j : ℕ) % 8)) cy cx (by omega)

/-- The nine-bin cells, from the table. -/
theorem cells9_at (b : Fin 16384) (cy cx : Fin 8) (j : Fin 36) :
    cells9 V0 b cy cx j = nine.hist (image V0 b) ((cy : ℕ) + (j : ℕ) / 9 / 2) ((cx : ℕ) + (j : ℕ) / 9 % 2) ((j : ℕ) % 9) := by
  unfold cells9 res_main_v246
  clean_types
  pointwise
  simp only [table9_at, dite_eq_ite]
  exact four_cells (fun p q => nine.hist (image V0 b) p q ((j : ℕ) % 9)) cy cx (by omega)

/-- The six-bin cells, from the table. -/
theorem cells6_at (b : Fin 16384) (cy cx : Fin 13) (j : Fin 24) :
    cells6 V0 b cy cx j = six.hist (image V0 b) ((cy : ℕ) + (j : ℕ) / 6 / 2) ((cx : ℕ) + (j : ℕ) / 6 % 2) ((j : ℕ) % 6) := by
  unfold cells6 res_main_v353
  clean_types
  pointwise
  simp only [table6_at, dite_eq_ite]
  exact four_cells (fun p q => six.hist (image V0 b) p q ((j : ℕ) % 6)) cy cx (by omega)

/-- The eight-bin cells over their norm, clipped. -/
theorem clipped8_at (b : Fin 16384) (cy cx : Fin 6) (j : Fin 32) :
    res_main_v149 V0 (ix4 b cy cx j) = min (Ideal.div (cells8 V0 b cy cx j)
      (Ideal.sqrt ((∑ l, cells8 V0 b cy cx l * cells8 V0 b cy cx l) + eps))) (Ideal.ofBits .f32 0x3E4CCCCD#32) := by
  unfold res_main_v149
  clean_types
  pointwise
  rfl

/-- The nine-bin cells over their norm, clipped. -/
theorem clipped9_at (b : Fin 16384) (cy cx : Fin 8) (j : Fin 36) :
    res_main_v256 V0 (ix4 b cy cx j) = min (Ideal.div (cells9 V0 b cy cx j)
      (Ideal.sqrt ((∑ l, cells9 V0 b cy cx l * cells9 V0 b cy cx l) + eps))) (Ideal.ofBits .f32 0x3E4CCCCD#32) := by
  unfold res_main_v256
  clean_types
  pointwise
  rfl

/-- The six-bin cells over their norm, clipped. -/
theorem clipped6_at (b : Fin 16384) (cy cx : Fin 13) (j : Fin 24) :
    res_main_v363 V0 (ix4 b cy cx j) = min (Ideal.div (cells6 V0 b cy cx j)
      (Ideal.sqrt ((∑ l, cells6 V0 b cy cx l * cells6 V0 b cy cx l) + eps))) (Ideal.ofBits .f32 0x3E4CCCCD#32) := by
  unfold res_main_v363
  clean_types
  pointwise
  rfl

/-- The eight-bin features, of all images. -/
def feats8 : FVec Ideal S16384x1152 .f32 :=
  shapeCast S16384x1152 (Host.divf (res_main_v149 V0) (broadcastInDim S16384x6x6x32 ![0, 1, 2, 3] bcast_S16384x6x6x1_S16384x6x6x32_0_1_2_3
    (Host.sqrt (addf (broadcastInDim S16384x6x6x1 ![0, 1, 2] bcast_S16384x6x6_S16384x6x6x1_0_1_2
        (Host.reduceAdd (mulf (res_main_v149 V0) (res_main_v149 V0)) (constant S_ .f32 0x00000000#32) reducesTo_S16384x6x6x32_S16384x6x6_d3 h_S_))
      (broadcastInDim S16384x6x6x1 ![] bcast_S_S16384x6x6x1 (constant S_ .f32 0x358637BD#32)))))) shapeCasts_S16384x6x6x32_S16384x1152

/-- The nine-bin features, of all images. -/
def feats9 : FVec Ideal S16384x2304 .f32 :=
  shapeCast S16384x2304 (Host.divf (res_main_v256 V0) (broadcastInDim S16384x8x8x36 ![0, 1, 2, 3] bcast_S16384x8x8x1_S16384x8x8x36_0_1_2_3
    (Host.sqrt (addf (broadcastInDim S16384x8x8x1 ![0, 1, 2] bcast_S16384x8x8_S16384x8x8x1_0_1_2
        (Host.reduceAdd (mulf (res_main_v256 V0) (res_main_v256 V0)) (constant S_ .f32 0x00000000#32) reducesTo_S16384x8x8x36_S16384x8x8_d3 h_S_))
      (broadcastInDim S16384x8x8x1 ![] bcast_S_S16384x8x8x1 (constant S_ .f32 0x358637BD#32)))))) shapeCasts_S16384x8x8x36_S16384x2304

/-- The six-bin features, of all images. -/
def feats6 : FVec Ideal S16384x4056 .f32 :=
  shapeCast S16384x4056 (Host.divf (res_main_v363 V0) (broadcastInDim S16384x13x13x24 ![0, 1, 2, 3] bcast_S16384x13x13x1_S16384x13x13x24_0_1_2_3
    (Host.sqrt (addf (broadcastInDim S16384x13x13x1 ![0, 1, 2] bcast_S16384x13x13_S16384x13x13x1_0_1_2
        (Host.reduceAdd (mulf (res_main_v363 V0) (res_main_v363 V0)) (constant S_ .f32 0x00000000#32) reducesTo_S16384x13x13x24_S16384x13x13_d3 h_S_))
      (broadcastInDim S16384x13x13x1 ![] bcast_S_S16384x13x13x1 (constant S_ .f32 0x358637BD#32)))))) shapeCasts_S16384x13x13x24_S16384x4056

/-- The eight-bin features are the blocks'. -/
theorem feats8_at (b : Fin 16384) (f : Fin 1152) : feats8 V0 (ix2 b f)
    = block 4 6 7 8 (45 / 2) (2 / 45) (image V0 b) ((f : ℕ) / 192) ((f : ℕ) / 32 % 6) ⟨(f : ℕ) % 32, Nat.mod_lt _ (by norm_num)⟩ := by
  unfold feats8
  clean_types
  pointwise
  exact block_of_cells eight 8 _ _ _ (cells8 V0 b ⟨(f : ℕ) / 192, by omega⟩ ⟨(f : ℕ) / 32 % 6, by omega⟩) _
    (cells8_at V0 b _ _) (clipped8_at V0 b _ _) _

/-- The nine-bin features are the blocks'. -/
theorem feats9_at (b : Fin 16384) (f : Fin 2304) : feats9 V0 (ix2 b f)
    = block 3 8 8 9 20 (1 / 20) (image V0 b) ((f : ℕ) / 288) ((f : ℕ) / 36 % 8) ⟨(f : ℕ) % 36, Nat.mod_lt _ (by norm_num)⟩ := by
  unfold feats9
  clean_types
  pointwise
  exact block_of_cells nine 9 _ _ _ (cells9 V0 b ⟨(f : ℕ) / 288, by omega⟩ ⟨(f : ℕ) / 36 % 8, by omega⟩) _
    (cells9_at V0 b _ _) (clipped9_at V0 b _ _) _

/-- The six-bin features are the blocks'. -/
theorem feats6_at (b : Fin 16384) (f : Fin 4056) : feats6 V0 (ix2 b f)
    = block 2 13 5 6 30 (1 / 30) (image V0 b) ((f : ℕ) / 312) ((f : ℕ) / 24 % 13) ⟨(f : ℕ) % 24, Nat.mod_lt _ (by norm_num)⟩ := by
  unfold feats6
  clean_types
  pointwise
  exact block_of_cells six 6 _ _ _ (cells6 V0 b ⟨(f : ℕ) / 312, by omega⟩ ⟨(f : ℕ) / 24 % 13, by omega⟩) _
    (cells6_at V0 b _ _) (clipped6_at V0 b _ _) _

/-- The reference's result: the features side by side, less the means, over the scales. -/
def quotient : FVec Ideal S16384x8296 .f32 :=
  Host.divf (subf (concatenate S16384x8296 1
      [⟨S16384x784, ((shapeCast S16384x784 (V0 (Proc.devRef .tc main_arg0)) shapeCasts_S16384x1x28x28_S16384x784)
          : (⟨S16384x784, .f32⟩ : BufTy).Contents (Elt Ideal))⟩,
        ⟨S16384x1152, (feats8 V0 : (⟨S16384x1152, .f32⟩ : BufTy).Contents (Elt Ideal))⟩,
        ⟨S16384x2304, (feats9 V0 : (⟨S16384x2304, .f32⟩ : BufTy).Contents (Elt Ideal))⟩,
        ⟨S16384x4056, (feats6 V0 : (⟨S16384x4056, .f32⟩ : BufTy).Contents (Elt Ideal))⟩]
      concatenates_S16384x784_S16384x1152_S16384x2304_S16384x4056_S16384x8296_d1)
    (broadcastInDim S16384x8296 ![0, 1] bcast_S1x8296_S16384x8296_0_1 (broadcastInDim S1x8296 ![1] bcast_S8296_S1x8296_1 (V0 (Proc.devRef .tc main_arg1)))))
    (broadcastInDim S16384x8296 ![0, 1] bcast_S1x8296_S16384x8296_0_1 (broadcastInDim S1x8296 ![1] bcast_S8296_S1x8296_1 (V0 (Proc.devRef .tc main_arg2))))

/-- The reference's result at one image and feature. -/
theorem quotient_at (b : Fin 16384) (f : Fin 8296) (g s : Vec Ideal ⟨1, ![8296]⟩ .f32) (hg : V0 (Proc.devRef .tc main_arg1) = g)
    (hs : V0 (Proc.devRef .tc main_arg2) = s) :
    quotient V0 (ix2 b f) = Ideal.div (features (image V0 b) f - g (ix1 f)) (s (ix1 f)) := by
  unfold quotient
  rw [hg, hs]
  clean_types
  pointwise
  refine congrArg (fun t : EReal => Ideal.div (t - g (ix1 f)) (s (ix1 f))) ?_
  unfold features
  simp only [feats8_at, feats9_at, feats6_at]
  by_cases h1 : (f : ℕ) < 784
  · rw [dif_pos h1, dif_pos h1]
    unfold image padded
    dsimp only
    rw [dif_pos (by omega)]
    simp only [Nat.add_sub_cancel_left]
  · rw [dif_neg h1, dif_neg h1]

end Cert.Hog

end
-- ==== Proof.Algebraic.lean ====
/- The value claim: over the extended reals the kernel and the reference end with the same result. -/
module

public import proofs.«01_k».proof.Defs
public import proofs.«01_k».proof.Proof.KernelValue
public import proofs.«01_k».proof.Proof.ReferenceBlocks

@[expose] public section

set_option maxRecDepth 16384

noncomputable section

namespace Cert.Hog

open Idealize.ShloMosaic Idealize.ShloMosaic.TcCoe Idealize.SL.Sem

/-- The stated shape relation of the precondition's function holds. -/
instance nonzero_facts : Cert.Pre_std_nonzero.Facts := ⟨by decide⟩

/-- Where the precondition holds no scale is zero. -/
theorem scale_ne (x : Vec Ideal ⟨4, ![16384, 1, 28, 28]⟩ .f32) (g s : Vec Ideal ⟨1, ![8296]⟩ .f32)
    (h : Cert.Pre_std_nonzero.fn (F := Ideal) x g s = fun _ => 1#1) (f : Fin 8296) : s (ix1 f) ≠ 0 := by
  intro h0
  have h1 := congrFun h (ix1 f)
  unfold Cert.Pre_std_nonzero.fn at h1
  have h2 : BitVec.ofBool (decide (s (ix1 f) ≠ Ideal.ofBits .f32 0x00000000#32)) = 1#1 := h1
  rw [h0, show Ideal.ofBits .f32 0x00000000#32 = 0 by simp [Ideal.ofBits, Ideal.ieee]] at h2
  simp at h2

/-- Dividing by the scales is what the kernel's multiplication by their inverses does. -/
theorem quotient_result (V0 : Valuation Cert.ReferenceIdeal.τ Cert.ReferenceIdeal.sig (Elt Ideal))
    (x : Vec Ideal ⟨4, ![16384, 1, 28, 28]⟩ .f32) (g s : Vec Ideal ⟨1, ![8296]⟩ .f32)
    (hx : V0 (Proc.devRef .tc Cert.ReferenceIdeal.main_arg0) = x) (hg : V0 (Proc.devRef .tc Cert.ReferenceIdeal.main_arg1) = g)
    (hs : V0 (Proc.devRef .tc Cert.ReferenceIdeal.main_arg2) = s) (hn : ∀ f : Fin 8296, s (ix1 f) ≠ 0) :
    quotient V0 = result x g s := by
  funext j
  idx_vars j
  rw [quotient_at V0 j0 j1 g s hg hs]
  show _ = (features (padded x j0) j1 - g (ix1 j1)) * Ideal.div 1 (s (ix1 j1))
  rw [mul_inv_div (hn j1)]
  unfold image
  rw [hx]

/-- The value claim. -/
theorem value_claim : Cert.algebraic_KernelIdeal_ReferenceIdeal_pre_std_nonzero := by
  intro m g m' g' hpre hagree
  refine ⟨_, kernel_run m g, ?_⟩
  refine (θ_run _ _ _).mono (fun _ h c => ⟨(h c).1.trans ?_, (h c).2⟩) (Cert.ReferenceIdeal.Value.run (F := Ideal) m' g')
  exact quotient_result (Idealize.ShloMosaic.StableHlo.launchContents m' c) _ _ _ (hagree c).1 (hagree c).2.1 (hagree c).2.2 (scale_ne _ _ _ (hpre c))

end Cert.Hog

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Algebraic
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel as printed runs, its arguments end unchanged and every counter is back at zero. -/
theorem frame_p : Cert.quiescent_Kernel := fun m ρ _ => Cert.Kernel.Gen.frame m ρ

/-- The idealized kernel runs, its arguments end unchanged and every counter is back at zero. -/
theorem frame_pi : Cert.quiescent_KernelIdeal := fun m ρ _ => Cert.KernelIdeal.Gen.frame m ρ

/-- The reference runs, its arguments end unchanged and every counter is back at zero. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The idealization names three constants, the inverses of the three bin widths: 1/22.5, 1/20 and 1/30. -/
theorem preserves : Cert.preserves_Kernel_KernelIdeal :=
  ⟨IdealRules.named_const.statement Cert.KernelIdeal.κ "inv_bin8" .f32 0x3D360B61#32 ((2 / 45 : ℝ) : EReal) rfl,
   IdealRules.named_const.statement Cert.KernelIdeal.κ "inv_bin9" .f32 0x3D4CCCCD#32 ((1 / 20 : ℝ) : EReal) rfl,
   IdealRules.named_const.statement Cert.KernelIdeal.κ "inv_bin6" .f32 0x3D088889#32 ((1 / 30 : ℝ) : EReal) rfl⟩

/-- Everything the certificate claims: the frames, with and without the precondition, the named constants and the value. -/
theorem claim : Cert.Claim :=
  ⟨Cert.Kernel.Gen.facts, Cert.KernelIdeal.Gen.facts, Cert.ReferenceIdeal.Gen.facts, Cert.Hog.nonzero_facts, frame_p, frame_pi,
    fun m ρ _ => frame_pi m ρ trivial, frame_ri, fun m ρ _ => frame_ri m ρ trivial, preserves, Cert.Hog.value_claim⟩

end Cert.Proof

end
